-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served [hPre_served : Cert.Pre_served.Facts] (m : (ℓ : Loc Cert.KernelIdeal.nD Cert.KernelIdeal.τ Cert.KernelIdeal.sig) → Buf (Elt Ideal) ℓ) : Prop :=
  ∀ c : Dev Cert.KernelIdeal.nD,
    (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served [hPre_served : Cert.Pre_served.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_served [hKernelIdeal : Cert.KernelIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_served [hReferenceIdeal : Cert.ReferenceIdeal.Facts] [hPre_served : Cert.Pre_served.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "sat" .f32 0x41A00000#32 ⊤

def algebraic_KernelIdeal_ReferenceIdeal_pre_served [hKernelIdeal : Cert.KernelIdeal.Facts] [hReferenceIdeal : Cert.ReferenceIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_served : Cert.Pre_served.Facts),
    quiescent_Kernel (hKernel := hKernel)
    ∧ quiescent_KernelIdeal (hKernelIdeal := hKernelIdeal)
    ∧ quiescent_KernelIdeal_pre_served (hKernelIdeal := hKernelIdeal) (hPre_served := hPre_served)
    ∧ quiescent_ReferenceIdeal (hReferenceIdeal := hReferenceIdeal)
    ∧ quiescent_ReferenceIdeal_pre_served (hReferenceIdeal := hReferenceIdeal) (hPre_served := hPre_served)
    ∧ preserves_Kernel_KernelIdeal
    ∧ algebraic_KernelIdeal_ReferenceIdeal_pre_served (hKernelIdeal := hKernelIdeal) (hReferenceIdeal := hReferenceIdeal) (hPre_served := hPre_served)
-- ==== Pre_served.lean ====
abbrev S16384x20x16 : Shape := ⟨3, ![16384, 20, 16]⟩
abbrev S1000x48 : Shape := ⟨2, ![1000, 48]⟩
abbrev S16x144 : Shape := ⟨2, ![16, 144]⟩
abbrev S48x144 : Shape := ⟨2, ![48, 144]⟩
abbrev S2x144 : Shape := ⟨2, ![2, 144]⟩
abbrev S15x48 : Shape := ⟨2, ![15, 48]⟩
abbrev S96x1 : Shape := ⟨2, ![96, 1]⟩
abbrev S1 : Shape := ⟨1, ![1]⟩
abbrev S16384x1x1 : Shape := ⟨3, ![16384, 1, 1]⟩
abbrev S16384 : Shape := ⟨1, ![16384]⟩
abbrev S_ : Shape := ⟨0, ![]⟩
abbrev S48x48 : Shape := ⟨2, ![48, 48]⟩
abbrev S1x48 : Shape := ⟨2, ![1, 48]⟩
abbrev S48 : Shape := ⟨1, ![48]⟩

class Facts : Prop where
  slices_S16384x20x16_S16384x1x1_0_0_0 : S16384x20x16.Slices ![0, 0, 0] S16384x1x1
  shapeCasts_S16384x1x1_S16384 : S16384x1x1.ShapeCasts S16384
  bcast_S_S16384 : S_.BroadcastsInDim S16384 (![] : Fin 0 → Fin S16384.rank)
  slices_S16384x20x16_S16384x1x1_0_0_2 : S16384x20x16.Slices ![0, 0, 2] S16384x1x1
  slices_S1000x48_S15x48_0_0 : S1000x48.Slices ![0, 0] S15x48
  bcast_S_S15x48 : S_.BroadcastsInDim S15x48 (![] : Fin 0 → Fin S15x48.rank)
  slices_S48x144_S48x48_0_96 : S48x144.Slices ![0, 96] S48x48
  bcast_S_S48x48 : S_.BroadcastsInDim S48x48 (![] : Fin 0 → Fin S48x48.rank)
  slices_S2x144_S1x48_1_96 : S2x144.Slices ![1, 96] S1x48
  shapeCasts_S1x48_S48 : S1x48.ShapeCasts S48
  bcast_S_S48 : S_.BroadcastsInDim S48 (![] : Fin 0 → Fin S48.rank)

variable [Facts]

def fn_part2 {F : FTy → Type} [FloatOps F] (main_arg8 : FVec F S2x144 .f32) (main_v10 : IVec S16384 1) (main_v21 : IVec S16384 1) (main_v25 : IVec S15x48 1) (main_v28 : IVec S15x48 1) (main_v32 : IVec S48x48 1) (main_v36 : IVec S48x48 1) (main_v39 : FVec F S48 .f32) : IVec S16384 1 × IVec S16384 1 × IVec S15x48 1 × IVec S15x48 1 × IVec S48x48 1 × IVec S48x48 1 × IVec S48 1 × IVec S48 1 :=
  let main_cst_6 : FVec F S_ .f32 := constant S_ .f32 0x7F800000#32
  let main_v40 : FVec F S48 .f32 := broadcastInDim S48 ![] bcast_S_S48 main_cst_6
  let main_v41 : IVec S48 1 := cmpf .olt main_v39 main_v40
  let main_v42 : FVec F S1x48 .f32 := (extractStridedSlice S1x48 ![1, 96] · slices_S2x144_S1x48_1_96) main_arg8
  let main_v43 : FVec F S48 .f32 := shapeCast S48 main_v42 shapeCasts_S1x48_S48
  let main_v44 : FVec F S48 .f32 := Host.absf main_v43
  let main_cst_7 : FVec F S_ .f32 := constant S_ .f32 0x7F800000#32
  let main_v45 : FVec F S48 .f32 := broadcastInDim S48 ![] bcast_S_S48 main_cst_7
  let main_v46 : IVec S48 1 := cmpf .olt main_v44 main_v45
  (main_v10, main_v21, main_v25, main_v28, main_v32, main_v36, main_v41, main_v46)

def fn_part1 {F : FTy → Type} [FloatOps F] (main_arg1 : FVec F S1000x48 .f32) (main_arg3 : FVec F S48x144 .f32) (main_arg4 : FVec F S2x144 .f32) (main_arg5 : FVec F S15x48 .f32) (main_arg7 : FVec F S48x144 .f32) (main_arg8 : FVec F S2x144 .f32) (main_v10 : IVec S16384 1) (main_v13 : IVec S16384 32) (main_v18 : IVec S16384 1) (main_v19 : IVec S16384 32) : IVec S16384 1 × IVec S16384 1 × IVec S15x48 1 × IVec S15x48 1 × IVec S48x48 1 × IVec S48x48 1 × IVec S48 1 × IVec S48 1 :=
  let main_v20 : IVec S16384 1 := cmpi .slt main_v13 main_v19
  let main_v21 : IVec S16384 1 := andi main_v18 main_v20
  let main_v22 : FVec F S15x48 .f32 := (extractStridedSlice S15x48 ![0, 0] · slices_S1000x48_S15x48_0_0) main_arg1
  let main_v23 : FVec F S15x48 .f32 := Host.absf main_v22
  let main_cst : FVec F S_ .f32 := constant S_ .f32 0x7F800000#32
  let main_v24 : FVec F S15x48 .f32 := broadcastInDim S15x48 ![] bcast_S_S15x48 main_cst
  let main_v25 : IVec S15x48 1 := cmpf .olt main_v23 main_v24
  let main_v26 : FVec F S15x48 .f32 := Host.absf main_arg5
  let main_cst_3 : FVec F S_ .f32 := constant S_ .f32 0x7F800000#32
  let main_v27 : FVec F S15x48 .f32 := broadcastInDim S15x48 ![] bcast_S_S15x48 main_cst_3
  let main_v28 : IVec S15x48 1 := cmpf .olt main_v26 main_v27
  let main_v29 : FVec F S48x48 .f32 := (extractStridedSlice S48x48 ![0, 96] · slices_S48x144_S48x48_0_96) main_arg3
  let main_v30 : FVec F S48x48 .f32 := Host.absf main_v29
  let main_cst_4 : FVec F S_ .f32 := constant S_ .f32 0x7F800000#32
  let main_v31 : FVec F S48x48 .f32 := broadcastInDim S48x48 ![] bcast_S_S48x48 main_cst_4
  let main_v32 : IVec S48x48 1 := cmpf .olt main_v30 main_v31
  let main_v33 : FVec F S48x48 .f32 := (extractStridedSlice S48x48 ![0, 96] · slices_S48x144_S48x48_0_96) main_arg7
  let main_v34 : FVec F S48x48 .f32 := Host.absf main_v33
  let main_cst_5 : FVec F S_ .f32 := constant S_ .f32 0x7F800000#32
  let main_v35 : FVec F S48x48 .f32 := broadcastInDim S48x48 ![] bcast_S_S48x48 main_cst_5
  let main_v36 : IVec S48x48 1 := cmpf .olt main_v34 main_v35
  let main_v37 : FVec F S1x48 .f32 := (extractStridedSlice S1x48 ![1, 96] · slices_S2x144_S1x48_1_96) main_arg4
  let main_v38 : FVec F S48 .f32 := shapeCast S48 main_v37 shapeCasts_S1x48_S48
  let main_v39 : FVec F S48 .f32 := Host.absf main_v38
  fn_part2 (F := F) main_arg8 main_v10 main_v21 main_v25 main_v28 main_v32 main_v36 main_v39

def fn {F : FTy → Type} [FloatOps F] (main_arg0 : FVec F S16384x20x16 .f32) (main_arg1 : FVec F S1000x48 .f32) (main_arg2 : FVec F S16x144 .f32) (main_arg3 : FVec F S48x144 .f32) (main_arg4 : FVec F S2x144 .f32) (main_arg5 : FVec F S15x48 .f32) (main_arg6 : FVec F S16x144 .f32) (main_arg7 : FVec F S48x144 .f32) (main_arg8 : FVec F S2x144 .f32) (main_arg9 : FVec F S96x1 .f32) (main_arg10 : FVec F S1 .f32) : IVec S16384 1 × IVec S16384 1 × IVec S15x48 1 × IVec S15x48 1 × IVec S48x48 1 × IVec S48x48 1 × IVec S48 1 × IVec S48 1 :=
  let main_v0 : FVec F S16384x1x1 .f32 := (extractStridedSlice S16384x1x1 ![0, 0, 0] · slices_S16384x20x16_S16384x1x1_0_0_0) main_arg0
  let main_v1 : FVec F S16384 .f32 := shapeCast S16384 main_v0 shapeCasts_S16384x1x1_S16384
  let main_v2 : IVec S16384 32 := fptosi 32 main_v1
  let main_v3 : FVec F S16384 .f32 := sitofp .f32 main_v2
  let main_v4 : IVec S16384 1 := cmpf .oeq main_v3 main_v1
  let main_c : IVec S_ 32 := constantI S_ 32 0#32
  let main_v5 : IVec S16384 32 := broadcastInDim S16384 ![] bcast_S_S16384 main_c
  let main_v6 : IVec S16384 1 := cmpi .sge main_v2 main_v5
  let main_v7 : IVec S16384 1 := andi main_v4 main_v6
  let main_c_0 : IVec S_ 32 := constantI S_ 32 15#32
  let main_v8 : IVec S16384 32 := broadcastInDim S16384 ![] bcast_S_S16384 main_c_0
  let main_v9 : IVec S16384 1 := cmpi .slt main_v2 main_v8
  let main_v10 : IVec S16384 1 := andi main_v7 main_v9
  let main_v11 : FVec F S16384x1x1 .f32 := (extractStridedSlice S16384x1x1 ![0, 0, 2] · slices_S16384x20x16_S16384x1x1_0_0_2) main_arg0
  let main_v12 : FVec F S16384 .f32 := shapeCast S16384 main_v11 shapeCasts_S16384x1x1_S16384
  let main_v13 : IVec S16384 32 := fptosi 32 main_v12
  let main_v14 : FVec F S16384 .f32 := sitofp .f32 main_v13
  let main_v15 : IVec S16384 1 := cmpf .oeq main_v14 main_v12
  let main_c_1 : IVec S_ 32 := constantI S_ 32 0#32
  let main_v16 : IVec S16384 32 := broadcastInDim S16384 ![] bcast_S_S16384 main_c_1
  let main_v17 : IVec S16384 1 := cmpi .sge main_v13 main_v16
  let main_v18 : IVec S16384 1 := andi main_v15 main_v17
  let main_c_2 : IVec S_ 32 := constantI S_ 32 15#32
  let main_v19 : IVec S16384 32 := broadcastInDim S16384 ![] bcast_S_S16384 main_c_2
  fn_part1 (F := F) main_arg1 main_arg3 main_arg4 main_arg5 main_arg7 main_arg8 main_v10 main_v13 main_v18 main_v19
-- ==== Kernel.lean ====
abbrev S16384x20x16 : Shape := ⟨3, ![16384, 20, 16]⟩
abbrev S1000x48 : Shape := ⟨2, ![1000, 48]⟩
abbrev S16x144 : Shape := ⟨2, ![16, 144]⟩
abbrev S48x144 : Shape := ⟨2, ![48, 144]⟩
abbrev S2x144 : Shape := ⟨2, ![2, 144]⟩
abbrev S15x48 : Shape := ⟨2, ![15, 48]⟩
abbrev S96x1 : Shape := ⟨2, ![96, 1]⟩
abbrev S1 : Shape := ⟨1, ![1]⟩
abbrev S16384x320 : Shape := ⟨2, ![16384, 320]⟩
abbrev S_ : Shape := ⟨0, ![]⟩
abbrev S2x1x1 : Shape := ⟨3, ![2, 1, 1]⟩
abbrev S1x1x1 : Shape := ⟨3, ![1, 1, 1]⟩
abbrev S3x1x1 : Shape := ⟨3, ![3, 1, 1]⟩
abbrev S144x16 : Shape := ⟨2, ![144, 16]⟩
abbrev S3x48x16 : Shape := ⟨3, ![3, 48, 16]⟩
abbrev S3x8x16 : Shape := ⟨3, ![3, 8, 16]⟩
abbrev S3x104x16 : Shape := ⟨3, ![3, 104, 16]⟩
abbrev S312x16 : Shape := ⟨2, ![312, 16]⟩
abbrev S144x48 : Shape := ⟨2, ![144, 48]⟩
abbrev S3x48x48 : Shape := ⟨3, ![3, 48, 48]⟩
abbrev S3x56x48 : Shape := ⟨3, ![3, 56, 48]⟩
abbrev S3x104x48 : Shape := ⟨3, ![3, 104, 48]⟩
abbrev S312x48 : Shape := ⟨2, ![312, 48]⟩
abbrev S3x8x48 : Shape := ⟨3, ![3, 8, 48]⟩
abbrev S1x144 : Shape := ⟨2, ![1, 144]⟩
abbrev S144x1 : Shape := ⟨2, ![144, 1]⟩
abbrev S3x48x1 : Shape := ⟨3, ![3, 48, 1]⟩
abbrev S3x96x1 : Shape := ⟨3, ![3, 96, 1]⟩
abbrev S2x96x1 : Shape := ⟨3, ![2, 96, 1]⟩
abbrev S1x96x1 : Shape := ⟨3, ![1, 96, 1]⟩
abbrev S3x8x1 : Shape := ⟨3, ![3, 8, 1]⟩
abbrev S3x104x1 : Shape := ⟨3, ![3, 104, 1]⟩
abbrev S312x1 : Shape := ⟨2, ![312, 1]⟩
abbrev S312x7 : Shape := ⟨2, ![312, 7]⟩
abbrev S312x104 : Shape := ⟨2, ![312, 104]⟩
abbrev S8x1 : Shape := ⟨2, ![8, 1]⟩
abbrev S104x1 : Shape := ⟨2, ![104, 1]⟩
abbrev S1x1 : Shape := ⟨2, ![1, 1]⟩
abbrev S16x48 : Shape := ⟨2, ![16, 48]⟩
abbrev S1x16384 : Shape := ⟨2, ![1, 16384]⟩
abbrev S2048x320 : Shape := ⟨2, ![2048, 320]⟩
abbrev S1x2048 : Shape := ⟨2, ![1, 2048]⟩
abbrev S320x2048 : Shape := ⟨2, ![320, 2048]⟩
abbrev S16x1 : Shape := ⟨2, ![16, 1]⟩
abbrev S16x2048 : Shape := ⟨2, ![16, 2048]⟩
abbrev S48x2048 : Shape := ⟨2, ![48, 2048]⟩
abbrev S7x2048 : Shape := ⟨2, ![7, 2048]⟩
abbrev S104x2048 : Shape := ⟨2, ![104, 2048]⟩
abbrev S312x2048 : Shape := ⟨2, ![312, 2048]⟩
abbrev S208x2048 : Shape := ⟨2, ![208, 2048]⟩
abbrev S96x2048 : Shape := ⟨2, ![96, 2048]⟩
abbrev S32x2048 : Shape := ⟨2, ![32, 2048]⟩
abbrev S32 : Shape := ⟨1, ![32]⟩
abbrev S32x1 : Shape := ⟨2, ![32, 1]⟩
abbrev S32x104 : Shape := ⟨2, ![32, 104]⟩
abbrev S15x1 : Shape := ⟨2, ![15, 1]⟩
abbrev S16384x1 : Shape := ⟨2, ![16384, 1]⟩

abbrev nBuf : Space → Nat
  | .hbm => 97
  | .vmem => 13
  | .smem => 0
  | _ => 0

abbrev bufTy : (tb : Table) → Fin (tcTables nBuf tb) → BufTy
  | .hbm, ⟨0, _⟩ => ⟨S16384x20x16, .f32⟩
  | .hbm, ⟨1, _⟩ => ⟨S1000x48, .f32⟩
  | .hbm, ⟨2, _⟩ => ⟨S16x144, .f32⟩
  | .hbm, ⟨3, _⟩ => ⟨S48x144, .f32⟩
  | .hbm, ⟨4, _⟩ => ⟨S2x144, .f32⟩
  | .hbm, ⟨5, _⟩ => ⟨S15x48, .f32⟩
  | .hbm, ⟨6, _⟩ => ⟨S16x144, .f32⟩
  | .hbm, ⟨7, _⟩ => ⟨S48x144, .f32⟩
  | .hbm, ⟨8, _⟩ => ⟨S2x144, .f32⟩
  | .hbm, ⟨9, _⟩ => ⟨S96x1, .f32⟩
  | .hbm, ⟨10, _⟩ => ⟨S1, .f32⟩
  | .hbm, ⟨11, _⟩ => ⟨S16384x320, .f32⟩
  | .hbm, ⟨12, _⟩ => ⟨S_, .f32⟩
  | .hbm, ⟨13, _⟩ => ⟨S2x1x1, .f32⟩
  | .hbm, ⟨14, _⟩ => ⟨S_, .f32⟩
  | .hbm, ⟨15, _⟩ => ⟨S1x1x1, .f32⟩
  | .hbm, ⟨16, _⟩ => ⟨S3x1x1, .f32⟩
  | .hbm, ⟨17, _⟩ => ⟨S144x16, .f32⟩
  | .hbm, ⟨18, _⟩ => ⟨S3x48x16, .f32⟩
  | .hbm, ⟨19, _⟩ => ⟨S3x48x16, .f32⟩
  | .hbm, ⟨20, _⟩ => ⟨S3x48x16, .f32⟩
  | .hbm, ⟨21, _⟩ => ⟨S144x16, .f32⟩
  | .hbm, ⟨22, _⟩ => ⟨S3x48x16, .f32⟩
  | .hbm, ⟨23, _⟩ => ⟨S3x48x16, .f32⟩
  | .hbm, ⟨24, _⟩ => ⟨S3x48x16, .f32⟩
  | .hbm, ⟨25, _⟩ => ⟨S_, .f32⟩
  | .hbm, ⟨26, _⟩ => ⟨S3x8x16, .f32⟩
  | .hbm, ⟨27, _⟩ => ⟨S3x104x16, .f32⟩
  | .hbm, ⟨28, _⟩ => ⟨S312x16, .f32⟩
  | .hbm, ⟨29, _⟩ => ⟨S144x48, .f32⟩
  | .hbm, ⟨30, _⟩ => ⟨S3x48x48, .f32⟩
  | .hbm, ⟨31, _⟩ => ⟨S_, .f32⟩
  | .hbm, ⟨32, _⟩ => ⟨S3x48x48, .f32⟩
  | .hbm, ⟨33, _⟩ => ⟨S3x48x48, .f32⟩
  | .hbm, ⟨34, _⟩ => ⟨S_, .f32⟩
  | .hbm, ⟨35, _⟩ => ⟨S3x56x48, .f32⟩
  | .hbm, ⟨36, _⟩ => ⟨S3x104x48, .f32⟩
  | .hbm, ⟨37, _⟩ => ⟨S312x48, .f32⟩
  | .hbm, ⟨38, _⟩ => ⟨S_, .f32⟩
  | .hbm, ⟨39, _⟩ => ⟨S3x48x48, .f32⟩
  | .hbm, ⟨40, _⟩ => ⟨S144x48, .f32⟩
  | .hbm, ⟨41, _⟩ => ⟨S3x48x48, .f32⟩
  | .hbm, ⟨42, _⟩ => ⟨S_, .f32⟩
  | .hbm, ⟨43, _⟩ => ⟨S3x48x48, .f32⟩
  | .hbm, ⟨44, _⟩ => ⟨S3x48x48, .f32⟩
  | .hbm, ⟨45, _⟩ => ⟨S_, .f32⟩
  | .hbm, ⟨46, _⟩ => ⟨S3x8x48, .f32⟩
  | .hbm, ⟨47, _⟩ => ⟨S3x104x48, .f32⟩
  | .hbm, ⟨48, _⟩ => ⟨S312x48, .f32⟩
  | .hbm, ⟨49, _⟩ => ⟨S1x144, .f32⟩
  | .hbm, ⟨50, _⟩ => ⟨S144x1, .f32⟩
  | .hbm, ⟨51, _⟩ => ⟨S3x48x1, .f32⟩
  | .hbm, ⟨52, _⟩ => ⟨S1x144, .f32⟩
  | .hbm, ⟨53, _⟩ => ⟨S144x1, .f32⟩
  | .hbm, ⟨54, _⟩ => ⟨S3x48x1, .f32⟩
  | .hbm, ⟨55, _⟩ => ⟨S3x96x1, .f32⟩
  | .hbm, ⟨56, _⟩ => ⟨S1x144, .f32⟩
  | .hbm, ⟨57, _⟩ => ⟨S144x1, .f32⟩
  | .hbm, ⟨58, _⟩ => ⟨S3x48x1, .f32⟩
  | .hbm, ⟨59, _⟩ => ⟨S1x144, .f32⟩
  | .hbm, ⟨60, _⟩ => ⟨S144x1, .f32⟩
  | .hbm, ⟨61, _⟩ => ⟨S3x48x1, .f32⟩
  | .hbm, ⟨62, _⟩ => ⟨S3x96x1, .f32⟩
  | .hbm, ⟨63, _⟩ => ⟨S2x96x1, .f32⟩
  | .hbm, ⟨64, _⟩ => ⟨S2x96x1, .f32⟩
  | .hbm, ⟨65, _⟩ => ⟨S2x96x1, .f32⟩
  | .hbm, ⟨66, _⟩ => ⟨S_, .f32⟩
  | .hbm, ⟨67, _⟩ => ⟨S2x96x1, .f32⟩
  | .hbm, ⟨68, _⟩ => ⟨S2x96x1, .f32⟩
  | .hbm, ⟨69, _⟩ => ⟨S1x96x1, .f32⟩
  | .hbm, ⟨70, _⟩ => ⟨S_, .f32⟩
  | .hbm, ⟨71, _⟩ => ⟨S1x96x1, .f32⟩
  | .hbm, ⟨72, _⟩ => ⟨S1x96x1, .f32⟩
  | .hbm, ⟨73, _⟩ => ⟨S3x96x1, .f32⟩
  | .hbm, ⟨74, _⟩ => ⟨S_, .f32⟩
  | .hbm, ⟨75, _⟩ => ⟨S3x8x1, .f32⟩
  | .hbm, ⟨76, _⟩ => ⟨S3x104x1, .f32⟩
  | .hbm, ⟨77, _⟩ => ⟨S312x1, .f32⟩
  | .hbm, ⟨78, _⟩ => ⟨S_, .f32⟩
  | .hbm, ⟨79, _⟩ => ⟨S312x7, .f32⟩
  | .hbm, ⟨80, _⟩ => ⟨S312x104, .f32⟩
  | .hbm, ⟨81, _⟩ => ⟨S1x96x1, .f32⟩
  | .hbm, ⟨82, _⟩ => ⟨S96x1, .f32⟩
  | .hbm, ⟨83, _⟩ => ⟨S_, .f32⟩
  | .hbm, ⟨84, _⟩ => ⟨S8x1, .f32⟩
  | .hbm, ⟨85, _⟩ => ⟨S104x1, .f32⟩
  | .hbm, ⟨86, _⟩ => ⟨S1x1, .f32⟩
  | .hbm, ⟨87, _⟩ => ⟨S_, .f32⟩
  | .hbm, ⟨88, _⟩ => ⟨S16x48, .f32⟩
  | .hbm, ⟨89, _⟩ => ⟨S_, .i32⟩
  | .hbm, ⟨90, _⟩ => ⟨S1, .i32⟩
  | .hbm, ⟨91, _⟩ => ⟨S16x48, .f32⟩
  | .hbm, ⟨92, _⟩ => ⟨S1x16384, .f32⟩
  | .hbm, ⟨93, _⟩ => ⟨S1000x48, .f32⟩
  | .hbm, ⟨94, _⟩ => ⟨S16x48, .f32⟩
  | .hbm, ⟨95, _⟩ => ⟨S16384x1, .f32⟩
  | .hbm, ⟨96, _⟩ => ⟨S15x48, .f32⟩
  | .local _ .vmem, ⟨0, _⟩ => ⟨S2048x320, .f32⟩
  | .local _ .vmem, ⟨1, _⟩ => ⟨S2048x320, .f32⟩
  | .local _ .vmem, ⟨2, _⟩ => ⟨S312x16, .f32⟩
  | .local _ .vmem, ⟨3, _⟩ => ⟨S312x104, .f32⟩
  | .local _ .vmem, ⟨4, _⟩ => ⟨S104x1, .f32⟩
  | .local _ .vmem, ⟨5, _⟩ => ⟨S96x1, .f32⟩
  | .local _ .vmem, ⟨6, _⟩ => ⟨S1x1, .f32⟩
  | .local _ .vmem, ⟨7, _⟩ => ⟨S1000x48, .f32⟩
  | .local _ .vmem, ⟨8, _⟩ => ⟨S16x48, .f32⟩
  | .local _ .vmem, ⟨9, _⟩ => ⟨S1x2048, .f32⟩
  | .local _ .vmem, ⟨10, _⟩ => ⟨S1x2048, .f32⟩
  | .local _ .vmem, ⟨11, _⟩ => ⟨S1000x48, .f32⟩
  | .local _ .vmem, ⟨12, _⟩ => ⟨S16x48, .f32⟩
  | _, _ => ⟨S16384x20x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_c : Ref sig .tc := ⟨.hbm, 89, rfl⟩
abbrev main_v64 : Ref sig .tc := ⟨.hbm, 90, rfl⟩
abbrev main_v65 : Ref sig .tc := ⟨.hbm, 91, rfl⟩
abbrev main_v66_0 : Ref sig .tc := ⟨.hbm, 92, rfl⟩
abbrev main_v66_1 : Ref sig .tc := ⟨.hbm, 93, rfl⟩
abbrev main_v66_2 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S312x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S312x104 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S104x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1000x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "sat" => some ⊤
  | _ => none
-- ==== ReferenceIdeal.lean ====
abbrev S16384x20x16 : Shape := ⟨3, ![16384, 20, 16]⟩
abbrev S1000x48 : Shape := ⟨2, ![1000, 48]⟩
abbrev S16x144 : Shape := ⟨2, ![16, 144]⟩
abbrev S48x144 : Shape := ⟨2, ![48, 144]⟩
abbrev S2x144 : Shape := ⟨2, ![2, 144]⟩
abbrev S15x48 : Shape := ⟨2, ![15, 48]⟩
abbrev S96x1 : Shape := ⟨2, ![96, 1]⟩
abbrev S1 : Shape := ⟨1, ![1]⟩
abbrev S16384x1x1 : Shape := ⟨3, ![16384, 1, 1]⟩
abbrev S16384 : Shape := ⟨1, ![16384]⟩
abbrev S_ : Shape := ⟨0, ![]⟩
abbrev S16384x1 : Shape := ⟨2, ![16384, 1]⟩
abbrev S16384x48 : Shape := ⟨2, ![16384, 48]⟩
abbrev S20x16384x16 : Shape := ⟨3, ![20, 16384, 16]⟩
abbrev S1x16384x16 : Shape := ⟨3, ![1, 16384, 16]⟩
abbrev S16384x16 : Shape := ⟨2, ![16384, 16]⟩
abbrev S16384x144 : Shape := ⟨2, ![16384, 144]⟩
abbrev S1x144 : Shape := ⟨2, ![1, 144]⟩
abbrev S144 : Shape := ⟨1, ![144]⟩
abbrev S16384x96 : Shape := ⟨2, ![16384, 96]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S16384x20x16, .f32⟩
  | 1 => ⟨S1000x48, .f32⟩
  | 2 => ⟨S16x144, .f32⟩
  | 3 => ⟨S48x144, .f32⟩
  | 4 => ⟨S2x144, .f32⟩
  | 5 => ⟨S15x48, .f32⟩
  | 6 => ⟨S16x144, .f32⟩
  | 7 => ⟨S48x144, .f32⟩
  | 8 => ⟨S2x144, .f32⟩
  | 9 => ⟨S96x1, .f32⟩
  | 10 => ⟨S1, .f32⟩
  | 11 => ⟨S16384x1x1, .f32⟩
  | 12 => ⟨S16384, .f32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384x48, .f32⟩
  | 23 => ⟨S16384x1x1, .f32⟩
  | 24 => ⟨S16384, .f32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x48, .f32⟩
  | 35 => ⟨S20x16384x16, .f32⟩
  | 36 => ⟨S_, .i32⟩
  | 37 => ⟨S20x16384x16, .f32⟩
  | 38 => ⟨S16x144, .f32⟩
  | 39 => ⟨S2x144, .f32⟩
  | 40 => ⟨S48x144, .f32⟩
  | 41 => ⟨S16x144, .f32⟩
  | 42 => ⟨S2x144, .f32⟩
  | 43 => ⟨S48x144, .f32⟩
  | 44 => ⟨S_, .i32⟩
  | 45 => ⟨S16384x48, .f32⟩
  | 46 => ⟨S16384x48, .f32⟩
  | 47 => ⟨S_, .i32⟩
  | 48 => ⟨S_, .i1⟩
  | 49 => ⟨S_, .i32⟩
  | 50 => ⟨S_, .i32⟩
  | 51 => ⟨S1x16384x16, .f32⟩
  | 52 => ⟨S16384x16, .f32⟩
  | 53 => ⟨S16384x144, .f32⟩
  | 54 => ⟨S1x144, .f32⟩
  | 55 => ⟨S144, .f32⟩
  | 56 => ⟨S1x144, .f32⟩
  | 57 => ⟨S16384x144, .f32⟩
  | 58 => ⟨S16384x144, .f32⟩
  | 59 => ⟨S16384x144, .f32⟩
  | 60 => ⟨S1x144, .f32⟩
  | 61 => ⟨S144, .f32⟩
  | 62 => ⟨S1x144, .f32⟩
  | 63 => ⟨S16384x144, .f32⟩
  | 64 => ⟨S16384x144, .f32⟩
  | 65 => ⟨S16384x48, .f32⟩
  | 66 => ⟨S16384x48, .f32⟩
  | 67 => ⟨S16384x48, .f32⟩
  | 68 => ⟨S16384x48, .f32⟩
  | 69 => ⟨S16384x48, .f32⟩
  | 70 => ⟨S16384x48, .f32⟩
  | 71 => ⟨S16384x48, .f32⟩
  | 72 => ⟨S16384x48, .f32⟩
  | 73 => ⟨S16384x48, .f32⟩
  | 74 => ⟨S_, .f32⟩
  | 75 => ⟨S16384x48, .f32⟩
  | 76 => ⟨S16384x48, .f32⟩
  | 77 => ⟨S_, .f32⟩
  | 78 => ⟨S16384x48, .f32⟩
  | 79 => ⟨S16384x48, .f32⟩
  | 80 => ⟨S16384x48, .f32⟩
  | 81 => ⟨S16384x48, .f32⟩
  | 82 => ⟨S16384x48, .f32⟩
  | 83 => ⟨S_, .f32⟩
  | 84 => ⟨S16384x48, .f32⟩
  | 85 => ⟨S16384x48, .f32⟩
  | 86 => ⟨S_, .f32⟩
  | 87 => ⟨S16384x48, .f32⟩
  | 88 => ⟨S16384x48, .f32⟩
  | 89 => ⟨S16384x48, .f32⟩
  | 90 => ⟨S16384x48, .f32⟩
  | 91 => ⟨S16384x48, .f32⟩
  | 92 => ⟨S16384x48, .f32⟩
  | 93 => ⟨S_, .f32⟩
  | 94 => ⟨S16384x48, .f32⟩
  | 95 => ⟨S16384x48, .f32⟩
  | 96 => ⟨S16384x48, .f32⟩
  | 97 => ⟨S16384x48, .f32⟩
  | 98 => ⟨S16384x144, .f32⟩
  | 99 => ⟨S1x144, .f32⟩
  | 100 => ⟨S144, .f32⟩
  | 101 => ⟨S1x144, .f32⟩
  | 102 => ⟨S16384x144, .f32⟩
  | 103 => ⟨S16384x144, .f32⟩
  | 104 => ⟨S16384x144, .f32⟩
  | 105 => ⟨S1x144, .f32⟩
  | 106 => ⟨S144, .f32⟩
  | 107 => ⟨S1x144, .f32⟩
  | 108 => ⟨S16384x144, .f32⟩
  | 109 => ⟨S16384x144, .f32⟩
  | 110 => ⟨S16384x48, .f32⟩
  | 111 => ⟨S16384x48, .f32⟩
  | 112 => ⟨S16384x48, .f32⟩
  | 113 => ⟨S16384x48, .f32⟩
  | 114 => ⟨S16384x48, .f32⟩
  | 115 => ⟨S16384x48, .f32⟩
  | 116 => ⟨S16384x48, .f32⟩
  | 117 => ⟨S16384x48, .f32⟩
  | 118 => ⟨S16384x48, .f32⟩
  | 119 => ⟨S_, .f32⟩
  | 120 => ⟨S16384x48, .f32⟩
  | 121 => ⟨S16384x48, .f32⟩
  | 122 => ⟨S_, .f32⟩
  | 123 => ⟨S16384x48, .f32⟩
  | 124 => ⟨S16384x48, .f32⟩
  | 125 => ⟨S16384x48, .f32⟩
  | 126 => ⟨S16384x48, .f32⟩
  | 127 => ⟨S16384x48, .f32⟩
  | _ => ⟨S16384x20x16, .f32⟩

abbrev hbmTy0_1 (i : Nat) : BufTy := match i % 128 with
  | 0 => ⟨S_, .f32⟩
  | 1 => ⟨S16384x48, .f32⟩
  | 2 => ⟨S16384x48, .f32⟩
  | 3 => ⟨S_, .f32⟩
  | 4 => ⟨S16384x48, .f32⟩
  | 5 => ⟨S16384x48, .f32⟩
  | 6 => ⟨S16384x48, .f32⟩
  | 7 => ⟨S16384x48, .f32⟩
  | 8 => ⟨S16384x48, .f32⟩
  | 9 => ⟨S16384x48, .f32⟩
  | 10 => ⟨S_, .f32⟩
  | 11 => ⟨S16384x48, .f32⟩
  | 12 => ⟨S16384x48, .f32⟩
  | 13 => ⟨S16384x48, .f32⟩
  | 14 => ⟨S16384x48, .f32⟩
  | 15 => ⟨S_, .i32⟩
  | 16 => ⟨S_, .i32⟩
  | 17 => ⟨S16384x1x1, .f32⟩
  | 18 => ⟨S16384, .f32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1000x48, .f32⟩
  | 29 => ⟨S16384x1x1, .f32⟩
  | 30 => ⟨S16384, .f32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S15x48, .f32⟩
  | 41 => ⟨S16384x96, .f32⟩
  | 42 => ⟨S16384x1, .f32⟩
  | 43 => ⟨S1x1, .f32⟩
  | 44 => ⟨S16384x1, .f32⟩
  | 45 => ⟨S16384x1, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S_, .f32⟩
  | 52 => ⟨S16384x1, .f32⟩
  | 53 => ⟨S16384x1, .f32⟩
  | _ => ⟨S16384x20x16, .f32⟩

abbrev hbmTy (i : Nat) : BufTy := match i / 128 with
  | 0 => hbmTy0_0 i
  | 1 => hbmTy0_1 i
  | _ => ⟨S16384x20x16, .f32⟩

abbrev bufTy : (tb : Table) → Fin (tcTables nBuf tb) → BufTy
  | .hbm, ⟨i, _⟩ => hbmTy i
  | _, _ => ⟨S16384x20x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev main_v21_8 : Ref sig .tc := ⟨.hbm, 45, rfl⟩
abbrev main_v21_9 : Ref sig .tc := ⟨.hbm, 46, rfl⟩
abbrev main_while0c_c_18 : Ref sig .tc := ⟨.hbm, 47, rfl⟩
abbrev main_while0c_v53 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_v0 : Ref sig .tc := ⟨.hbm, 51, rfl⟩
abbrev main_while0b_v53 : Ref sig .tc := ⟨.hbm, 52, rfl⟩
abbrev main_while0b_v54 : Ref sig .tc := ⟨.hbm, 53, rfl⟩
abbrev main_while0b_v55 : Ref sig .tc := ⟨.hbm, 54, rfl⟩
abbrev main_while0b_v56 : Ref sig .tc := ⟨.hbm, 55, rfl⟩
abbrev main_while0b_v57 : Ref sig .tc := ⟨.hbm, 56, rfl⟩
abbrev main_while0b_v58 : Ref sig .tc := ⟨.hbm, 57, rfl⟩
abbrev main_while0b_v59 : Ref sig .tc := ⟨.hbm, 58, rfl⟩
abbrev main_while0b_v60 : Ref sig .tc := ⟨.hbm, 59, rfl⟩
abbrev main_while0b_v61 : Ref sig .tc := ⟨.hbm, 60, rfl⟩
abbrev main_while0b_v62 : Ref sig .tc := ⟨.hbm, 61, rfl⟩
abbrev main_while0b_v63 : Ref sig .tc := ⟨.hbm, 62, rfl⟩
abbrev main_while0b_v64 : Ref sig .tc := ⟨.hbm, 63, rfl⟩
abbrev main_while0b_v65 : Ref sig .tc := ⟨.hbm, 64, rfl⟩
abbrev main_while0b_v66 : Ref sig .tc := ⟨.hbm, 65, rfl⟩
abbrev main_while0b_v67 : Ref sig .tc := ⟨.hbm, 66, rfl⟩
abbrev main_while0b_v68 : Ref sig .tc := ⟨.hbm, 67, rfl⟩
abbrev main_while0b_v69 : Ref sig .tc := ⟨.hbm, 68, rfl⟩
abbrev main_while0b_v70 : Ref sig .tc := ⟨.hbm, 69, rfl⟩
abbrev main_while0b_v71 : Ref sig .tc := ⟨.hbm, 70, rfl⟩
abbrev main_while0b_v72 : Ref sig .tc := ⟨.hbm, 71, rfl⟩
abbrev main_while0b_v73 : Ref sig .tc := ⟨.hbm, 72, rfl⟩
abbrev main_while0b_v74 : Ref sig .tc := ⟨.hbm, 73, rfl⟩
abbrev main_while0b_cst_18 : Ref sig .tc := ⟨.hbm, 74, rfl⟩
abbrev main_while0b_v75 : Ref sig .tc := ⟨.hbm, 75, rfl⟩
abbrev main_while0b_v76 : Ref sig .tc := ⟨.hbm, 76, rfl⟩
abbrev main_while0b_cst_19 : Ref sig .tc := ⟨.hbm, 77, rfl⟩
abbrev main_while0b_v77 : Ref sig .tc := ⟨.hbm, 78, rfl⟩
abbrev main_while0b_v78 : Ref sig .tc := ⟨.hbm, 79, rfl⟩
abbrev main_while0b_v79 : Ref sig .tc := ⟨.hbm, 80, rfl⟩
abbrev main_while0b_v80 : Ref sig .tc := ⟨.hbm, 81, rfl⟩
abbrev main_while0b_v81 : Ref sig .tc := ⟨.hbm, 82, rfl⟩
abbrev main_while0b_cst_20 : Ref sig .tc := ⟨.hbm, 83, rfl⟩
abbrev main_while0b_v82 : Ref sig .tc := ⟨.hbm, 84, rfl⟩
abbrev main_while0b_v83 : Ref sig .tc := ⟨.hbm, 85, rfl⟩
abbrev main_while0b_cst_21 : Ref sig .tc := ⟨.hbm, 86, rfl⟩
abbrev main_while0b_v84 : Ref sig .tc := ⟨.hbm, 87, rfl⟩
abbrev main_while0b_v85 : Ref sig .tc := ⟨.hbm, 88, rfl⟩
abbrev main_while0b_v86 : Ref sig .tc := ⟨.hbm, 89, rfl⟩
abbrev main_while0b_v87 : Ref sig .tc := ⟨.hbm, 90, rfl⟩
abbrev main_while0b_v88 : Ref sig .tc := ⟨.hbm, 91, rfl⟩
abbrev main_while0b_v89 : Ref sig .tc := ⟨.hbm, 92, rfl⟩
abbrev main_while0b_cst_22 : Ref sig .tc := ⟨.hbm, 93, rfl⟩
abbrev main_while0b_v90 : Ref sig .tc := ⟨.hbm, 94, rfl⟩
abbrev main_while0b_v91 : Ref sig .tc := ⟨.hbm, 95, rfl⟩
abbrev main_while0b_v92 : Ref sig .tc := ⟨.hbm, 96, rfl⟩
abbrev main_while0b_v93 : Ref sig .tc := ⟨.hbm, 97, rfl⟩
abbrev main_while0b_v94 : Ref sig .tc := ⟨.hbm, 98, rfl⟩
abbrev main_while0b_v95 : Ref sig .tc := ⟨.hbm, 99, rfl⟩
abbrev main_while0b_v96 : Ref sig .tc := ⟨.hbm, 100, rfl⟩
abbrev main_while0b_v97 : Ref sig .tc := ⟨.hbm, 101, rfl⟩
abbrev main_while0b_v98 : Ref sig .tc := ⟨.hbm, 102, rfl⟩
abbrev main_while0b_v99 : Ref sig .tc := ⟨.hbm, 103, rfl⟩
abbrev main_while0b_v100 : Ref sig .tc := ⟨.hbm, 104, rfl⟩
abbrev main_while0b_v101 : Ref sig .tc := ⟨.hbm, 105, rfl⟩
abbrev main_while0b_v102 : Ref sig .tc := ⟨.hbm, 106, rfl⟩
abbrev main_while0b_v103 : Ref sig .tc := ⟨.hbm, 107, rfl⟩
abbrev main_while0b_v104 : Ref sig .tc := ⟨.hbm, 108, rfl⟩
abbrev main_while0b_v105 : Ref sig .tc := ⟨.hbm, 109, rfl⟩
abbrev main_while0b_v106 : Ref sig .tc := ⟨.hbm, 110, rfl⟩
abbrev main_while0b_v107 : Ref sig .tc := ⟨.hbm, 111, rfl⟩
abbrev main_while0b_v108 : Ref sig .tc := ⟨.hbm, 112, rfl⟩
abbrev main_while0b_v109 : Ref sig .tc := ⟨.hbm, 113, rfl⟩
abbrev main_while0b_v110 : Ref sig .tc := ⟨.hbm, 114, rfl⟩
abbrev main_while0b_v111 : Ref sig .tc := ⟨.hbm, 115, rfl⟩
abbrev main_while0b_v112 : Ref sig .tc := ⟨.hbm, 116, rfl⟩
abbrev main_while0b_v113 : Ref sig .tc := ⟨.hbm, 117, rfl⟩
abbrev main_while0b_v114 : Ref sig .tc := ⟨.hbm, 118, rfl⟩
abbrev main_while0b_cst_23 : Ref sig .tc := ⟨.hbm, 119, rfl⟩
abbrev main_while0b_v115 : Ref sig .tc := ⟨.hbm, 120, rfl⟩
abbrev main_while0b_v116 : Ref sig .tc := ⟨.hbm, 121, rfl⟩
abbrev main_while0b_cst_24 : Ref sig .tc := ⟨.hbm, 122, rfl⟩
abbrev main_while0b_v117 : Ref sig .tc := ⟨.hbm, 123, rfl⟩
abbrev main_while0b_v118 : Ref sig .tc := ⟨.hbm, 124, rfl⟩
abbrev main_while0b_v119 : Ref sig .tc := ⟨.hbm, 125, rfl⟩
abbrev main_while0b_v120 : Ref sig .tc := ⟨.hbm, 126, rfl⟩
abbrev main_while0b_v121 : Ref sig .tc := ⟨.hbm, 127, rfl⟩
abbrev main_while0b_cst_25 : Ref sig .tc := ⟨.hbm, 128, rfl⟩
abbrev main_while0b_v122 : Ref sig .tc := ⟨.hbm, 129, rfl⟩
abbrev main_while0b_v123 : Ref sig .tc := ⟨.hbm, 130, rfl⟩
abbrev main_while0b_cst_26 : Ref sig .tc := ⟨.hbm, 131, rfl⟩
abbrev main_while0b_v124 : Ref sig .tc := ⟨.hbm, 132, rfl⟩
abbrev main_while0b_v125 : Ref sig .tc := ⟨.hbm, 133, rfl⟩
abbrev main_while0b_v126 : Ref sig .tc := ⟨.hbm, 134, rfl⟩
abbrev main_while0b_v127 : Ref sig .tc := ⟨.hbm, 135, rfl⟩
abbrev main_while0b_v128 : Ref sig .tc := ⟨.hbm, 136, rfl⟩
abbrev main_while0b_v129 : Ref sig .tc := ⟨.hbm, 137, rfl⟩
abbrev main_while0b_cst_27 : Ref sig .tc := ⟨.hbm, 138, rfl⟩
abbrev main_while0b_v130 : Ref sig .tc := ⟨.hbm, 139, rfl⟩
abbrev main_while0b_v131 : Ref sig .tc := ⟨.hbm, 140, rfl⟩
abbrev main_while0b_v132 : Ref sig .tc := ⟨.hbm, 141, rfl⟩
abbrev main_while0b_v133 : Ref sig .tc := ⟨.hbm, 142, rfl⟩
abbrev main_while0b_c_28 : Ref sig .tc := ⟨.hbm, 143, rfl⟩
abbrev main_while0b_v134 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_c_4 : Ref sig .tc := ⟨.hbm, 148, rfl⟩
abbrev main_v25 : Ref sig .tc := ⟨.hbm, 149, rfl⟩
abbrev main_v26 : Ref sig .tc := ⟨.hbm, 150, rfl⟩
abbrev main_c_5 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_c_6 : Ref sig .tc := ⟨.hbm, 160, rfl⟩
abbrev main_v35 : Ref sig .tc := ⟨.hbm, 161, rfl⟩
abbrev main_v36 : Ref sig .tc := ⟨.hbm, 162, rfl⟩
abbrev main_c_7 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_cst : Ref sig .tc := ⟨.hbm, 176, rfl⟩
abbrev main_v49 : Ref sig .tc := ⟨.hbm, 177, rfl⟩
abbrev main_v50 : Ref sig .tc := ⟨.hbm, 178, rfl⟩
abbrev main_cst_8 : Ref sig .tc := ⟨.hbm, 179, rfl⟩
abbrev main_v51 : Ref sig .tc := ⟨.hbm, 180, rfl⟩
abbrev main_v52 : Ref sig .tc := ⟨.hbm, 181, rfl⟩

abbrev nD : Nat := 1
abbrev τ : Topo := Topo.v7x

variable {F : FTy → Type} [FloatOps F]

abbrev main_while0_count : Scf.Loop 32 := ⟨0#32, 20#32, 1#32⟩
-- ==== Proof.KernelRun.lean ====
/- The frame of the kernel: the body runs at every grid point whatever the output buffers hold, so the program ends, its
   argument arrays are unchanged and every semaphore counter is zero. Nothing is said here of what the outputs hold. -/
module

public import proofs.«01_k».proof.Proof.Gen.Kernel.Skeleton
public import proofs.«01_k».proof.Proof.Gen.Kernel.Frame
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2000000 in
/-- The body runs from any contents of the output buffers: the inputs' buffers are as they were, the outputs' hold something. -/
theorem body_runs (c : Dev nD) (i : grid0.Coords) (arg1 : Memref sig .tc .vmem S2048x320 .f32) (harg1 : arg1.IsWhole) (arg2 : Memref sig .tc .vmem S312x16 .f32) (harg2 : arg2.IsWhole) (arg3 : Memref sig .tc .vmem S312x104 .f32) (harg3 : arg3.IsWhole) (arg4 : Memref sig .tc .vmem S104x1 .f32) (harg4 : arg4.IsWhole) (arg5 : Memref sig .tc .vmem S96x1 .f32) (harg5 : arg5.IsWhole) (arg6 : Memref sig .tc .vmem S1x1 .f32) (harg6 : arg6.IsWhole) (arg7 : Memref sig .tc .vmem S1000x48 .f32) (harg7 : arg7.IsWhole) (arg8 : Memref sig .tc .vmem S16x48 .f32) (harg8 : arg8.IsWhole) (arg9 : Memref sig .tc .vmem S1x2048 .f32) (harg9 : arg9.IsWhole) (arg10 : Memref sig .tc .vmem S1000x48 .f32) (harg10 : arg10.IsWhole) (arg11 : Memref sig .tc .vmem S16x48 .f32) (harg11 : arg11.IsWhole)
    (x0 : Vec F S2048x320 .f32) (x1 : Vec F S312x16 .f32) (x2 : Vec F S312x104 .f32) (x3 : Vec F S104x1 .f32) (x4 : Vec F S96x1 .f32) (x5 : Vec F S1x1 .f32) (x6 : Vec F S1000x48 .f32) (x7 : Vec F S16x48 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_gru_kernel i arg1 harg1 arg2 harg2 arg3 harg3 arg4 harg4 arg5 harg5 arg6 harg6 arg7 harg7 arg8 harg8 arg9 harg9 arg10 harg10 arg11 harg11) K := by
    intro E K
    by_cases hc0 : (Scalar.cmpi .ne (Scalar.extui (Scalar.cmpi .eq (BitVec.ofNat 32 (i 0).val) 0#32)) 0#32) = 1#1
    all_goals
      simp only [cc0__fused_gru_kernel_eq_skeleton]; unfold cc0__fused_gru_kernel_skel
      simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
      sl_exec (disch := first | sl_exact hc0)
      sl_step
      iapply Hk
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _, _; isplitr; swap; · iexact H8
        ipureintro; rfl
      isplitl [H9]
      · iexists _, _; isplitr; swap; · iexact H9
        ipureintro; rfl
      iexists _, _; isplitr; swap; · iexact H10
      ipureintro; rfl

/-- The buffers the host writes after the region. -/
def T0 : Finset (Ref sig .tc) := {main_v67, main_v68}

/-- The host's operations after the region write those buffers only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-- From the run over any proof data, the argument arrays end unchanged. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 6 rfl).trans ((hA c 6).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      (Pipeline.RDat.FramePostR.arr_in h c 4 rfl).trans ((hA c 4).trans (V_main_arg9 m c)),
      ((h c).2 main_arg10 (Finset.mem_sdiff.mpr ⟨Pipeline.mem_restRefs_of main_arg10 (by decide) (by decide), by decide⟩)).trans (V_main_arg10 m c)⟩) h

/-- Nothing is said of the three output windows. -/
def forgets0 : Fin 11 → Bool := fun w => w.val == 8 || w.val == 9 || w.val == 10

/-- The proof data: each input buffer keeps its block, the outputs are unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The arrays start at what the host leaves in them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 1600000 in
/-- The body at any point takes what the windows hold before it to what they hold after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_runs c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run: the input arrays end unchanged and every counter is zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run, without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  unchanged_of m ρ (fun c => (dats m 0 c).toRForget forgets0) (A_eq m) (run_main m ρ)

/-- The frame of the kernel, at any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Body

end
-- ==== Proof.Block.lean ====
/- What one grid point computes from its blocks: the hidden states of its 2048 examples after the twenty recurrent
   steps, the row of outputs, and the two state tables it leaves. -/
module

public import proofs.«01_k».proof.Proof.Gen.KernelIdeal.Skeleton
public import Idealize.ShloMosaic.Lib.VecWindow

@[expose] public section

set_option maxRecDepth 16384

noncomputable section

namespace Cert.KernelIdeal.Block

open Idealize.ShloMosaic Cert.KernelIdeal.Gen

variable {F : FTy → Type} [FloatOps F] [Named F]

/-- One recurrent step as the kernel runs it, with `R` the recurrent weights, `K` the input weights, `b` the input
    bias of the candidate, `x` the step's inputs and `h` the states, all gates stacked in rows. -/
def hStep (R : FVec F S312x104 .f32) (K : FVec F S312x16 .f32) (b : FVec F S104x1 .f32) (x : FVec F S16x2048 .f32)
    (h : FVec F S104x2048 .f32) : FVec F S104x2048 .f32 :=
  let xz : FVec F S312x2048 .f32 := matmul dot_S312x16_S16x2048_S312x2048_1_0_0_1_n_n none K x (constant S312x2048 .f32 0x00000000#32)
  let hz : FVec F S312x2048 .f32 := matmul dot_S312x104_S104x2048_S312x2048_1_0_0_1_n_n none R h (constant S312x2048 .f32 0x00000000#32)
  let tzr : FVec F S208x2048 .f32 := tanh (addf (extractStridedSlice S208x2048 ![0, 0] xz slices_S312x2048_o0_0_S208x2048)
    (extractStridedSlice S208x2048 ![0, 0] hz slices_S312x2048_o0_0_S208x2048))
  let tz : FVec F S104x2048 .f32 := extractStridedSlice S104x2048 ![0, 0] tzr slices_S208x2048_o0_0_S104x2048
  let tr : FVec F S104x2048 .f32 := extractStridedSlice S104x2048 ![104, 0] tzr slices_S208x2048_o104_0_S104x2048
  let hzh : FVec F S104x2048 .f32 := extractStridedSlice S104x2048 ![208, 0] hz slices_S312x2048_o208_0_S104x2048
  let xzh : FVec F S104x2048 .f32 := extractStridedSlice S104x2048 ![208, 0] xz slices_S312x2048_o208_0_S104x2048
  let hh : FVec F S104x2048 .f32 := tanh (addf (addf (addf xzh (broadcastTo S104x2048 b broadcasts_S104x1_S104x2048)) hzh) (mulf tr hzh))
  let half : FVec F S104x2048 .f32 := broadcast S104x2048 (Scalar.ofBits .f32 0x3F000000#32)
  addf (mulf half (addf h hh)) (mulf (mulf half tz) (subf h hh))

/-- The recurrent weights with the saturating entry added. -/
def recurrent (x2 : Vec F S312x104 .f32) : FVec F S312x104 .f32 :=
  k0_pay11 (k0_pay9 x2) k0_pay10 (Named.named κ "sat" 0x41A00000#32)

section Chain

variable (v5 : FVec F S320x2048 .f32) (K : FVec F S312x16 .f32) (R : FVec F S312x104 .f32) (b : FVec F S104x1 .f32)
  (v27 : FVec F S104x2048 .f32)

/-- Step 1: its inputs are rows 0 to 15 of the transposed inputs. -/
def step1 (h : FVec F S104x2048 .f32) : FVec F S104x2048 .f32 :=
  hStep R K b (extractStridedSlice S16x2048 ![0, 0] v5 slices_S320x2048_o0_0_S16x2048) h

/-- Step 2: its inputs are rows 16 to 31 of the transposed inputs. -/
def step2 (h : FVec F S104x2048 .f32) : FVec F S104x2048 .f32 :=
  hStep R K b (extractStridedSlice S16x2048 ![16, 0] v5 slices_S320x2048_o16_0_S16x2048) h

/-- Step 3: its inputs are rows 32 to 47 of the transposed inputs. -/
def step3 (h : FVec F S104x2048 .f32) : FVec F S104x2048 .f32 :=
  hStep R K b (extractStridedSlice S16x2048 ![32, 0] v5 slices_S320x2048_o32_0_S16x2048) h

/-- Step 4: its inputs are rows 48 to 63 of the transposed inputs. -/
def step4 (h : FVec F S104x2048 .f32) : FVec F S104x2048 .f32 :=
  hStep R K b (extractStridedSlice S16x2048 ![48, 0] v5 slices_S320x2048_o48_0_S16x2048) h

/-- Step 5: its inputs are rows 64 to 79 of the transposed inputs. -/
def step5 (h : FVec F S104x2048 .f32) : FVec F S104x2048 .f32 :=
  hStep R K b (extractStridedSlice S16x2048 ![64, 0] v5 slices_S320x2048_o64_0_S16x2048) h

/-- Step 6: its inputs are rows 80 to 95 of the transposed inputs. -/
def step6 (h : FVec F S104x2048 .f32) : FVec F S104x2048 .f32 :=
  hStep R K b (extractStridedSlice S16x2048 ![80, 0] v5 slices_S320x2048_o80_0_S16x2048) h

/-- Step 7: its inputs are rows 96 to 111 of the transposed inputs. -/
def step7 (h : FVec F S104x2048 .f32) : FVec F S104x2048 .f32 :=
  hStep R K b (extractStridedSlice S16x2048 ![96, 0] v5 slices_S320x2048_o96_0_S16x2048) h

/-- Step 8: its inputs are rows 112 to 127 of the transposed inputs. -/
def step8 (h : FVec F S104x2048 .f32) : FVec F S104x2048 .f32 :=
  hStep R K b (extractStridedSlice S16x2048 ![112, 0] v5 slices_S320x2048_o112_0_S16x2048) h

/-- Step 9: its inputs are rows 128 to 143 of the transposed inputs. -/
def step9 (h : FVec F S104x2048 .f32) : FVec F S104x2048 .f32 :=
  hStep R K b (extractStridedSlice S16x2048 ![128, 0] v5 slices_S320x2048_o128_0_S16x2048) h

/-- Step 10: its inputs are rows 144 to 159 of the transposed inputs. -/
def step10 (h : FVec F S104x2048 .f32) : FVec F S104x2048 .f32 :=
  hStep R K b (extractStridedSlice S16x2048 ![144, 0] v5 slices_S320x2048_o144_0_S16x2048) h

/-- Step 11: its inputs are rows 160 to 175 of the transposed inputs. -/
def step11 (h : FVec F S104x2048 .f32) : FVec F S104x2048 .f32 :=
  hStep R K b (extractStridedSlice S16x2048 ![160, 0] v5 slices_S320x2048_o160_0_S16x2048) h

/-- Step 12: its inputs are rows 176 to 191 of the transposed inputs. -/
def step12 (h : FVec F S104x2048 .f32) : FVec F S104x2048 .f32 :=
  hStep R K b (extractStridedSlice S16x2048 ![176, 0] v5 slices_S320x2048_o176_0_S16x2048) h

/-- Step 13: its inputs are rows 192 to 207 of the transposed inputs. -/
def step13 (h : FVec F S104x2048 .f32) : FVec F S104x2048 .f32 :=
  hStep R K b (extractStridedSlice S16x2048 ![192, 0] v5 slices_S320x2048_o192_0_S16x2048) h

/-- Step 14: its inputs are rows 208 to 223 of the transposed inputs. -/
def step14 (h : FVec F S104x2048 .f32) : FVec F S104x2048 .f32 :=
  hStep R K b (extractStridedSlice S16x2048 ![208, 0] v5 slices_S320x2048_o208_0_S16x2048) h

/-- Step 15: its inputs are rows 224 to 239 of the transposed inputs. -/
def step15 (h : FVec F S104x2048 .f32) : FVec F S104x2048 .f32 :=
  hStep R K b (extractStridedSlice S16x2048 ![224, 0] v5 slices_S320x2048_o224_0_S16x2048) h

/-- Step 16: its inputs are rows 240 to 255 of the transposed inputs. -/
def step16 (h : FVec F S104x2048 .f32) : FVec F S104x2048 .f32 :=
  hStep R K b (extractStridedSlice S16x2048 ![240, 0] v5 slices_S320x2048_o240_0_S16x2048) h

/-- Step 17: its inputs are rows 256 to 271 of the transposed inputs. -/
def step17 (h : FVec F S104x2048 .f32) : FVec F S104x2048 .f32 :=
  hStep R K b (extractStridedSlice S16x2048 ![256, 0] v5 slices_S320x2048_o256_0_S16x2048) h

/-- Step 18: its inputs are rows 272 to 287 of the transposed inputs. -/
def step18 (h : FVec F S104x2048 .f32) : FVec F S104x2048 .f32 :=
  hStep R K b (extractStridedSlice S16x2048 ![272, 0] v5 slices_S320x2048_o272_0_S16x2048) h

/-- Step 19: its inputs are rows 288 to 303 of the transposed inputs. -/
def step19 (h : FVec F S104x2048 .f32) : FVec F S104x2048 .f32 :=
  hStep R K b (extractStridedSlice S16x2048 ![288, 0] v5 slices_S320x2048_o288_0_S16x2048) h

/-- Step 20: its inputs are rows 304 to 319 of the transposed inputs. -/
def step20 (h : FVec F S104x2048 .f32) : FVec F S104x2048 .f32 :=
  hStep R K b (extractStridedSlice S16x2048 ![304, 0] v5 slices_S320x2048_o304_0_S16x2048) h

/-- All twenty steps, from the states `h`. -/
def steps (h : FVec F S104x2048 .f32) : FVec F S104x2048 .f32 :=
  step20 v5 K R b (step19 v5 K R b (step18 v5 K R b (step17 v5 K R b (step16 v5 K R b (step15 v5 K R b (step14 v5 K R b (step13 v5 K R b (step12 v5 K R b (step11 v5 K R b (step10 v5 K R b (step9 v5 K R b (step8 v5 K R b (step7 v5 K R b (step6 v5 K R b (step5 v5 K R b (step4 v5 K R b (step3 v5 K R b (step2 v5 K R b (step1 v5 K R b h)))))))))))))))))))

end Chain

variable (x0 : Vec F S2048x320 .f32) (x1 : Vec F S312x16 .f32) (x2 : Vec F S312x104 .f32) (x3 : Vec F S104x1 .f32)
  (c0 : Vec F S16x48 .f32) (k0 : Vec F S16x48 .f32)

/-- The final states of the block as the printed parts compute them, from the block's inputs `x0`, the weights
    `x1`, `x2`, the bias `x3` and the first sixteen rows `c0`, `k0` of the two tables. -/
def printedH : FVec F S104x2048 .f32 :=
  let v5 := k0_pay3 x0
  let v27 := k0_pay7 x0 c0 k0
  let v29 := k0_pay8 x1
  let v31 := k0_pay9 x2
  let s : F .f32 := Named.named κ "sat" 0x41A00000#32
  let v42 := k0_pay11 v31 k0_pay10 s
  let v44 := k0_pay12 x3
  let v69 := k0_pay13 v5 v27 v29 v31 k0_pay10 s x3
  let v77 := k0_pay17 v5 v27 v29 v31 k0_pay10 s x3
  let v86 := k0_pay18 v5 v27 v29 v31 k0_pay10 s x3
  let v87 := k0_pay19 v5 v27 v29 v31 k0_pay10 s x3
  let v88 := k0_pay20 (F := F)
  let v119 := k0_pay21 v5 v29 v42 v44 v69 v77 v86 v87 v88
  let v127 := k0_pay25 v5 v29 v42 v44 v69 v77 v86 v87 v88
  let v136 := k0_pay26 v5 v29 v42 v44 v69 v77 v86 v87 v88
  let v139 := k0_pay27 v5 v29 v42 v44 v69 v77 v86 v87 v88
  let c : F .f32 := Scalar.ofBits .f32 0x3F000000#32
  let v169 := k0_pay28 v5 v29 v42 v44 v119 v127 v136 v139 c
  let v186 := k0_pay32 v5 v29 v42 v44 v119 v127 v136 v139 c
  let v189 := k0_pay33 v5 v29 v42 v44 v119 v127 v136 v139 c
  let v191 := k0_pay34 v5 v29 v42 v44 v119 v127 v136 v139 c
  let v239 := k0_pay40 v5 v29 v42 v44 v169 v186 v189 v191
  let v243 := k0_pay41 v5 v29 v42 v44 v169 v186 v189 v191
  let v294 := k0_pay42 v5 v29 v42 v44 v239 v243
  let v295 := k0_pay43 v5
  let v344 := k0_pay44 v5 v29 v42 v44 v294 v295
  let v346 := k0_pay45 v5 v29
  let v394 := k0_pay46 v5 v29 v42 v44 v344 v346
  let v396 := k0_pay47 v5 v29
  let v397 := k0_pay48 v5 v29 v42 v44 v344 v346
  let v444 := k0_pay49 v5 v29 v42 v44 v394 v396 v397
  let v446 := k0_pay50 v5 v29
  let v447 := k0_pay51 v5 v29 v42 v44 v394 v396 v397
  let v448 := k0_pay52 v5 v29
  let v449 := k0_pay53 v5 v29 v42 v44 v394 v396 v397
  let v494 := k0_pay54 v5 v29 v42 v44 v444 v446 v447 v448 v449
  let v496 := k0_pay55 v5 v29
  let v497 := k0_pay56 v5 v29 v42 v44 v444 v446 v447 v448 v449
  let v501 := k0_pay57 v5 v29 v42 v44 v444 v446 v447 v448 v449
  k0_pay58 v5 v29 v42 v44 v494 v496 v497 v501

/-- The final states of the block are twenty steps from the states looked up in the tables. -/
def finalH : FVec F S104x2048 .f32 :=
  steps (k0_pay3 x0) (k0_pay8 x1) (recurrent x2) (k0_pay12 x3) (k0_pay7 x0 c0 k0)

/-- The printed parts compute the twenty steps. -/
theorem printedH_eq : printedH x0 x1 x2 x3 c0 k0 = finalH x0 x1 x2 x3 c0 k0 := rfl

/-- The row of outputs from the final states `h`, with `x4` the output weights and `x5` the output bias. -/
def outRow (h : FVec F S104x2048 .f32) (x4 : Vec F S96x1 .f32) (x5 : Vec F S1x1 .f32) : FVec F S1x2048 .f32 :=
  k0_pay61 (matmul dot_S96x1_S96x2048_S1x2048_0_0_1_1_n_n none x4
    (extractStridedSlice S96x2048 ![0, 0] h slices_S104x2048_o0_0_S96x2048) (constant S1x2048 .f32 0x00000000#32)) (k0_pay60 x5)

/-- The first fifteen rows of the card table after the block, `p` being those rows before it. -/
def cardRows (x0 : Vec F S2048x320 .f32) (h : FVec F S104x2048 .f32) (p : Vec F S15x48 .f32) : FVec F S15x48 .f32 :=
  k0_pay66 (k0_pay5 x0) (k0_pay6 x0) h p

/-- The first fifteen rows of the category table after the block, `p` being those rows before it. -/
def catRows (x0 : Vec F S2048x320 .f32) (h : FVec F S104x2048 .f32) (p : Vec F S15x48 .f32) : FVec F S15x48 .f32 :=
  k0_pay1 (k0_pay67 (k0_pay5 x0) (k0_pay6 x0)) (k0_pay68 (k0_pay5 x0) (k0_pay6 x0) h) p

/-- The card table with its first fifteen rows replaced by what the block computes from them. -/
def cardTable (x0 : Vec F S2048x320 .f32) (h : FVec F S104x2048 .f32) (y : Vec F S1000x48 .f32) : Vec F S1000x48 .f32 :=
  VecWindow.put y ![0, 0] S15x48.size (cardRows x0 h (VecWindow.window y ![0, 0] S15x48.size inb_S1000x48_S15x48_0_0))

/-- The category table with its first fifteen rows replaced by what the block computes from them. -/
def catTable (x0 : Vec F S2048x320 .f32) (h : FVec F S104x2048 .f32) (y : Vec F S16x48 .f32) : Vec F S16x48 .f32 :=
  VecWindow.put y ![0, 0] S15x48.size (catRows x0 h (VecWindow.window y ![0, 0] S15x48.size inb_S16x48_S15x48_0_0))

end Cert.KernelIdeal.Block

end
-- ==== Proof.BodyRun.lean ====
/- The run of the kernel's body at one grid point, in its two cases: at the first point, where the tables are copied
   into the output buffers before they are updated, and at a later point, where the buffers hold what the point before
   left. Each output buffer ends at what the block computes (Block.lean). -/
module

public import proofs.«01_k».proof.Proof.Block
public import proofs.«01_k».proof.Proof.Gen.KernelIdeal.Frame
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Block

variable {F : FTy → Type} [FloatOps F] [Named F]

local notation "𝕄" => MT nD τ sig Unit (Elt F) ℕ (UR sig nD τ) ℕ

/-- The condition of the body's `if`: the grid coordinate is zero, as the program tests it. -/
abbrev firstPoint (i : grid0.Coords) : Prop := (Scalar.cmpi .ne (Scalar.extui (Scalar.cmpi .eq (BitVec.ofNat 32 (i 0).val) 0#32)) 0#32) = 1#1

/-- The condition holds at point zero and at no other. -/
theorem firstPoint_iff (t : Fin cfg0.N) : firstPoint (grid0.coords t) ↔ t.val = 0 := by
  have ht : t.val < 8 := Nat.lt_of_lt_of_eq t.isLt N_0
  have e0 : (grid0.coords t 0).val = t.val / 1 % 8 := Pipeline.Grid.coords_val t 0 (by decide) rfl
  have e1 : t.val = t.val % 8 := (Nat.mod_eq_of_lt ht).symm
  rw [e1]
  simp only [firstPoint, e0]
  word_cmp

/-- The final states of a block, from its inputs and the two whole tables. -/
abbrev blockH (x0 : Vec F S2048x320 .f32) (x1 : Vec F S312x16 .f32) (x2 : Vec F S312x104 .f32) (x3 : Vec F S104x1 .f32)
    (x6 : Vec F S1000x48 .f32) (x7 : Vec F S16x48 .f32) : FVec F S104x2048 .f32 :=
  finalH x0 x1 x2 x3 (VecWindow.window x6 ![0, 0] S16x48.size inb_S1000x48_S16x48_0_0) x7

set_option maxHeartbeats 2000000 in
/-- The body at the first point: from any contents of the output buffers, it leaves the outputs of the block, and the two input tables updated by the block. -/
theorem run_first (c : Dev nD) (i : grid0.Coords) (arg1 : Memref sig .tc .vmem S2048x320 .f32) (harg1 : arg1.IsWhole) (arg2 : Memref sig .tc .vmem S312x16 .f32) (harg2 : arg2.IsWhole) (arg3 : Memref sig .tc .vmem S312x104 .f32) (harg3 : arg3.IsWhole) (arg4 : Memref sig .tc .vmem S104x1 .f32) (harg4 : arg4.IsWhole) (arg5 : Memref sig .tc .vmem S96x1 .f32) (harg5 : arg5.IsWhole) (arg6 : Memref sig .tc .vmem S1x1 .f32) (harg6 : arg6.IsWhole) (arg7 : Memref sig .tc .vmem S1000x48 .f32) (harg7 : arg7.IsWhole) (arg8 : Memref sig .tc .vmem S16x48 .f32) (harg8 : arg8.IsWhole) (arg9 : Memref sig .tc .vmem S1x2048 .f32) (harg9 : arg9.IsWhole) (arg10 : Memref sig .tc .vmem S1000x48 .f32) (harg10 : arg10.IsWhole) (arg11 : Memref sig .tc .vmem S16x48 .f32) (harg11 : arg11.IsWhole) (hc0 : firstPoint i)
    (x0 : Vec F S2048x320 .f32) (x1 : Vec F S312x16 .f32) (x2 : Vec F S312x104 .f32) (x3 : Vec F S104x1 .f32) (x4 : Vec F S96x1 .f32) (x5 : Vec F S1x1 .f32) (x6 : Vec F S1000x48 .f32) (x7 : Vec F S16x48 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outRow (blockH x0 x1 x2 x3 x6 x7) x4 x5) ∗ owns (c : Thread nD τ) arg10 fullShare (cardTable x0 (blockH x0 x1 x2 x3 x6 x7) x6) ∗ owns (c : Thread nD τ) arg11 fullShare (catTable x0 (blockH x0 x1 x2 x3 x6 x7) x7)) -∗ K ⟨⟩))
          ⊢ wp frame (wpE (defs₀ (F := F)) Variants.none c none) E (cc0__fused_gru_kernel i arg1 harg1 arg2 harg2 arg3 harg3 arg4 harg4 arg5 harg5 arg6 harg6 arg7 harg7 arg8 harg8 arg9 harg9 arg10 harg10 arg11 harg11) K := by
    intro E K
    simp only [cc0__fused_gru_kernel_eq_skeleton]; unfold cc0__fused_gru_kernel_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      subst hf0 hf1 hf2 hf3 hf4 hf5 hf6 hf7
      rw [View.read_writes_full]
      rw [← View.readAt_full arg1.view f0 inb_S2048x320_S2048x320_0_0, ← View.readAt_full arg2.view f1 inb_S312x16_S312x16_0_0,
        ← View.readAt_full arg3.view f2 inb_S312x104_S312x104_0_0, ← View.readAt_full arg4.view f3 inb_S104x1_S104x1_0_0,
        ← View.readAt_full arg8.view f7 inb_S16x48_S16x48_0_0, ← View.readAt_full arg5.view f4 inb_S96x1_S96x1_0_0,
        ← View.readAt_full arg6.view f5 inb_S1x1_S1x1_0_0]
      unfold blockH
      rw [← printedH_eq]
      rfl
    isplitl [H9]
    · iexists _; isplitr; swap; · iexact H9
      ipureintro
      subst hf0 hf1 hf2 hf3 hf4 hf5 hf6 hf7
      rw [View.read_writes_cons_put _ _ _ _ _ rfl]
      rw [← View.readAt_full arg1.view f0 inb_S2048x320_S2048x320_0_0, ← View.readAt_full arg2.view f1 inb_S312x16_S312x16_0_0,
        ← View.readAt_full arg3.view f2 inb_S312x104_S312x104_0_0, ← View.readAt_full arg4.view f3 inb_S104x1_S104x1_0_0,
        ← View.readAt_full arg8.view f7 inb_S16x48_S16x48_0_0]
      unfold blockH
      rw [← printedH_eq]
      have e (g : BufTy.Contents (Elt F) arg10.view.ty) :
          View.read (Elt F) arg10.view (arg10.view.writes (Elt F) g (run_first.sl.H9_1 c arg7 f6)) = View.read (Elt F) arg7.view f6 :=
        (View.read_writes_full arg10.view g inb_S1000x48_S1000x48_0_0 _ []).trans (View.readAt_full arg7.view f6 inb_S1000x48_S1000x48_0_0)
      have e2 : run_first.sl.v574 c arg7 arg10 f6
          = VecWindow.window (View.read (Elt F) arg7.view f6) ![0, 0] S15x48.size inb_S1000x48_S15x48_0_0 :=
        (View.readAt_unit arg10.view _ inb_S1000x48_S15x48_0_0 rfl inb_S1000x48_S15x48_0_0).trans
          (by rw [e])
      rw [e, e2]
      rfl
    iexists _; isplitr; swap; · iexact H10
    · ipureintro
      subst hf0 hf1 hf2 hf3 hf4 hf5 hf6 hf7
      rw [View.read_writes_cons_put _ _ _ _ _ rfl]
      rw [← View.readAt_full arg1.view f0 inb_S2048x320_S2048x320_0_0, ← View.readAt_full arg2.view f1 inb_S312x16_S312x16_0_0,
        ← View.readAt_full arg3.view f2 inb_S312x104_S312x104_0_0, ← View.readAt_full arg4.view f3 inb_S104x1_S104x1_0_0,
        ← View.readAt_full arg8.view f7 inb_S16x48_S16x48_0_0]
      unfold blockH
      rw [← printedH_eq]
      have e (g : BufTy.Contents (Elt F) arg11.view.ty) :
          View.read (Elt F) arg11.view (arg11.view.writes (Elt F) g (run_first.sl.H10_1 c arg8 f7))
            = View.readAt (Elt F) arg8.view (Rect.unit ![0, 0] S16x48.size inb_S16x48_S16x48_0_0).toLoadRect f7 :=
        (View.read_writes_full arg11.view g inb_S16x48_S16x48_0_0 _ []).trans (shapeCast_self _ _)
      have e2 : run_first.sl.v584 c arg8 arg11 f7
          = VecWindow.window (View.readAt (Elt F) arg8.view (Rect.unit ![0, 0] S16x48.size inb_S16x48_S16x48_0_0).toLoadRect f7)
            ![0, 0] S15x48.size inb_S16x48_S15x48_0_0 :=
        (View.readAt_unit arg11.view _ inb_S16x48_S15x48_0_0 rfl inb_S16x48_S15x48_0_0).trans
          (by rw [e])
      rw [e, e2]
      rfl

set_option maxHeartbeats 2000000 in
/-- The body at a later point: it leaves the outputs of the block, and the tables `y9`, `y10` the buffers held updated by the block. -/
theorem run_later (c : Dev nD) (i : grid0.Coords) (arg1 : Memref sig .tc .vmem S2048x320 .f32) (harg1 : arg1.IsWhole) (arg2 : Memref sig .tc .vmem S312x16 .f32) (harg2 : arg2.IsWhole) (arg3 : Memref sig .tc .vmem S312x104 .f32) (harg3 : arg3.IsWhole) (arg4 : Memref sig .tc .vmem S104x1 .f32) (harg4 : arg4.IsWhole) (arg5 : Memref sig .tc .vmem S96x1 .f32) (harg5 : arg5.IsWhole) (arg6 : Memref sig .tc .vmem S1x1 .f32) (harg6 : arg6.IsWhole) (arg7 : Memref sig .tc .vmem S1000x48 .f32) (harg7 : arg7.IsWhole) (arg8 : Memref sig .tc .vmem S16x48 .f32) (harg8 : arg8.IsWhole) (arg9 : Memref sig .tc .vmem S1x2048 .f32) (harg9 : arg9.IsWhole) (arg10 : Memref sig .tc .vmem S1000x48 .f32) (harg10 : arg10.IsWhole) (arg11 : Memref sig .tc .vmem S16x48 .f32) (harg11 : arg11.IsWhole) (hc0 : ¬firstPoint i)
    (x0 : Vec F S2048x320 .f32) (x1 : Vec F S312x16 .f32) (x2 : Vec F S312x104 .f32) (x3 : Vec F S104x1 .f32) (x4 : Vec F S96x1 .f32) (x5 : Vec F S1x1 .f32) (x6 : Vec F S1000x48 .f32) (x7 : Vec F S16x48 .f32) (y9 : Vec F S1000x48 .f32) (y10 : Vec F S16x48 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare y9 ∗ owns (c : Thread nD τ) arg11 fullShare y10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outRow (blockH x0 x1 x2 x3 x6 x7) x4 x5) ∗ owns (c : Thread nD τ) arg10 fullShare (cardTable x0 (blockH x0 x1 x2 x3 x6 x7) y9) ∗ owns (c : Thread nD τ) arg11 fullShare (catTable x0 (blockH x0 x1 x2 x3 x6 x7) y10)) -∗ K ⟨⟩))
          ⊢ wp frame (wpE (defs₀ (F := F)) Variants.none c none) E (cc0__fused_gru_kernel i arg1 harg1 arg2 harg2 arg3 harg3 arg4 harg4 arg5 harg5 arg6 harg6 arg7 harg7 arg8 harg8 arg9 harg9 arg10 harg10 arg11 harg11) K := by
    intro E K
    simp only [cc0__fused_gru_kernel_eq_skeleton]; unfold cc0__fused_gru_kernel_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      subst hf0 hf1 hf2 hf3 hf4 hf5 hf6 hf7
      rw [View.read_writes_full]
      rw [← View.readAt_full arg1.view f0 inb_S2048x320_S2048x320_0_0, ← View.readAt_full arg2.view f1 inb_S312x16_S312x16_0_0,
        ← View.readAt_full arg3.view f2 inb_S312x104_S312x104_0_0, ← View.readAt_full arg4.view f3 inb_S104x1_S104x1_0_0,
        ← View.readAt_full arg8.view f7 inb_S16x48_S16x48_0_0, ← View.readAt_full arg5.view f4 inb_S96x1_S96x1_0_0,
        ← View.readAt_full arg6.view f5 inb_S1x1_S1x1_0_0]
      unfold blockH
      rw [← printedH_eq]
      rfl
    isplitl [H9]
    · iexists _; isplitr; swap; · iexact H9
      ipureintro
      subst hf0 hf1 hf2 hf3 hf4 hf5 hf6 hf7 hf9
      rw [View.read_writes_cons_put _ _ _ _ _ rfl]
      rw [← View.readAt_full arg1.view f0 inb_S2048x320_S2048x320_0_0, ← View.readAt_full arg2.view f1 inb_S312x16_S312x16_0_0,
        ← View.readAt_full arg3.view f2 inb_S312x104_S312x104_0_0, ← View.readAt_full arg4.view f3 inb_S104x1_S104x1_0_0,
        ← View.readAt_full arg8.view f7 inb_S16x48_S16x48_0_0]
      unfold blockH
      rw [← printedH_eq]
      rfl
    iexists _; isplitr; swap; · iexact H10
    · ipureintro
      subst hf0 hf1 hf2 hf3 hf4 hf5 hf6 hf7 hf10
      rw [View.read_writes_cons_put _ _ _ _ _ rfl]
      rw [← View.readAt_full arg1.view f0 inb_S2048x320_S2048x320_0_0, ← View.readAt_full arg2.view f1 inb_S312x16_S312x16_0_0,
        ← View.readAt_full arg3.view f2 inb_S312x104_S312x104_0_0, ← View.readAt_full arg4.view f3 inb_S104x1_S104x1_0_0,
        ← View.readAt_full arg8.view f7 inb_S16x48_S16x48_0_0]
      unfold blockH
      rw [← printedH_eq]
      rfl

end Cert.KernelIdeal.Body

end
-- ==== Proof.Region.lean ====
/- The run of the whole kernel: what each output buffer holds after each grid point, the pipeline's run over the eight
   points, and the frame of the idealized kernel. -/
module

public import proofs.«01_k».proof.Proof.BodyRun
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Block

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The final states of the block at point `t`. -/
def hAt (c : Dev nD) (t : Fin cfg0.N) : FVec F S104x2048 .f32 :=
  blockH (iblk m c 0 t) (iblk m c 1 t) (iblk m c 2 t) (iblk m c 3 t) (iblk m c 6 t) (iblk m c 7 t)

/-- The row of outputs of the block at point `t`. -/
def outAt (c : Dev nD) (t : Fin cfg0.N) : Vec F S1x2048 .f32 :=
  outRow (hAt m c t) (iblk m c 4 t) (iblk m c 5 t)

/-- The card table after point `n`: the input table updated by the blocks 0 to `n` in turn. -/
def cardAt (c : Dev nD) : (n : ℕ) → n < cfg0.N → Vec F S1000x48 .f32
  | 0, h => cardTable (iblk m c 0 ⟨0, h⟩) (hAt m c ⟨0, h⟩) (iblk m c 6 ⟨0, h⟩)
  | n + 1, h => cardTable (iblk m c 0 ⟨n + 1, h⟩) (hAt m c ⟨n + 1, h⟩) (cardAt c n (Nat.lt_of_succ_lt h))

/-- The category table after point `n`: the input table updated by the blocks 0 to `n` in turn. -/
def catAt (c : Dev nD) : (n : ℕ) → n < cfg0.N → Vec F S16x48 .f32
  | 0, h => catTable (iblk m c 0 ⟨0, h⟩) (hAt m c ⟨0, h⟩) (iblk m c 7 ⟨0, h⟩)
  | n + 1, h => catTable (iblk m c 0 ⟨n + 1, h⟩) (hAt m c ⟨n + 1, h⟩) (catAt c n (Nat.lt_of_succ_lt h))

/-- The pipeline's proof data: each input buffer keeps its block, each output buffer ends as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => cardAt m c t.val t.isLt
    | ⟨10, _⟩ => catAt m c t.val t.isLt
  Φ _ := Pipeline.ΦA spec0 c
  q _ := fullShare
  owed _ := 0

/-- The pipeline's arrays start at the contents the host leaves in them. -/
theorem A_eq (c : Dev nD) (w : Fin cfg0.W) : (dats m 0 c).A w = V m c (Pipeline.arrRef spec0 w) := by
  dsimp only [dats]

/-! What each window's buffer holds after the body at point `t`. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem after_9 (c : Dev nD) (t : Fin cfg0.N) : (dats m 0 c).after 9 t = cardAt m c t.val t.isLt := by dsimp only [dats]
theorem after_10 (c : Dev nD) (t : Fin cfg0.N) : (dats m 0 c).after 10 t = catAt m c t.val t.isLt := by dsimp only [dats]

/-! What each input window's buffer holds before the body at point `t`. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- After the first point the buffer of output 9 holds the table the point before left. -/
theorem before_9 (c : Dev nD) (t : Fin cfg0.N) (n : ℕ) (hn : t.val = n + 1) (d) :
    (dats m 0 c).before 9 t d = cardAt m c n (by have := t.isLt; omega) := by
  have hN : t.val < 8 := lt_of_lt_of_eq t.isLt (show cfg0.N = 8 from N_0)
  rw [Dat.before_out_kept (dats m 0 c) 9 rfl t (by omega)
    (Bool.eq_false_iff.mpr fun h => by have := (flush0_9 _).mp h; dsimp only at this; omega) (fun _ => rfl) (fun _ _ => rfl) d, after_9]
  congr 1
  show t.val - 1 = n
  omega

/-- After the first point the buffer of output 10 holds the table the point before left. -/
theorem before_10 (c : Dev nD) (t : Fin cfg0.N) (n : ℕ) (hn : t.val = n + 1) (d) :
    (dats m 0 c).before 10 t d = catAt m c n (by have := t.isLt; omega) := by
  have hN : t.val < 8 := lt_of_lt_of_eq t.isLt (show cfg0.N = 8 from N_0)
  rw [Dat.before_out_kept (dats m 0 c) 10 rfl t (by omega)
    (Bool.eq_false_iff.mpr fun h => by have := (flush0_10 _).mp h; dsimp only at this; omega) (fun _ => rfl) (fun _ _ => rfl) d, after_10]
  congr 1
  show t.val - 1 = n
  omega

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at point `t`, window by window. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 3200000 in
/-- The body at any point takes what the windows hold before it to what they hold after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  obtain ⟨n, hn⟩ := t
  cases n with
  | zero =>
    generalize ht : (⟨0, hn⟩ : Fin cfg0.N) = t
    have e9 : cardAt m c t.val t.isLt = cardTable (iblk m c 0 t) (hAt m c t) (iblk m c 6 t) := by subst ht; rfl
    have e10 : catAt m c t.val t.isLt = catTable (iblk m c 0 t) (hAt m c t) (iblk m c 7 t) := by subst ht; rfl
    rw [e9, e10]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_first c (grid0.coords t) _ _ _ _ _ _ _ _ _ _ _ _ _ _ _ _ _ _ _ _ _ _ ((firstPoint_iff t).mpr (by subst ht; rfl)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  | succ n =>
    generalize ht : (⟨n + 1, hn⟩ : Fin cfg0.N) = t
    have hv : t.val = n + 1 := by subst ht; rfl
    have e9 : cardAt m c t.val t.isLt = cardTable (iblk m c 0 t) (hAt m c t) (cardAt m c n (Nat.lt_of_succ_lt hn)) := by subst ht; rfl
    have e10 : catAt m c t.val t.isLt = catTable (iblk m c 0 t) (hAt m c t) (catAt m c n (Nat.lt_of_succ_lt hn)) := by subst ht; rfl
    rw [e9, e10]
    simp only [before_9 m c t n hv, before_10 m c t n hv]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_later c (grid0.coords t) _ _ _ _ _ _ _ _ _ _ _ _ _ _ _ _ _ _ _ _ _ _ (fun h => by have := (firstPoint_iff t).mp h; omega) (iblk m c 0 t) (iblk m c 1 t) (iblk m c 2 t) (iblk m c 3 t) (iblk m c 4 t) (iblk m c 5 t) (iblk m c 6 t) (iblk m c 7 t) (cardAt m c n (Nat.lt_of_succ_lt hn)) (catAt m c n (Nat.lt_of_succ_lt hn))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run: the pipeline's arrays end at what the proof data says, the host's last operations run after it, and
    every semaphore counter is zero at the end. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole run, without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run m ρ)

/-- The frame of the idealized kernel: it runs, its argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_quiescent m ρ))

end Cert.KernelIdeal.Body

end
-- ==== Proof.Cell.lean ====
/- One unit of the recurrent cell over the extended reals: the kernel's form with hyperbolic tangents against the plain
   form with logistic gates. -/
module

public import Idealize.ShloMosaic.PureOps.Ideal

@[expose] public section

noncomputable section

namespace Cert.Cell

open Idealize.ShloMosaic
open scoped BigOperators

/-- One half, as an extended real. -/
def half : EReal := ((1 / 2 : ℝ) : EReal)

/-- A finite extended real. -/
def Fin' (x : EReal) : Prop := ∃ r : ℝ, x = (r : EReal)

theorem half_nonneg : (0 : EReal) ≤ half := EReal.coe_nonneg.mpr (by norm_num)
theorem half_ne_top : half ≠ ⊤ := EReal.coe_ne_top _

/-- Halving distributes over a sum. -/
theorem half_add (a b : EReal) : half * (a + b) = half * a + half * b :=
  EReal.left_distrib_of_nonneg_of_ne_top half_nonneg half_ne_top a b

/-- Halving distributes over a sum of products. -/
theorem half_sum {n : ℕ} (w x : Fin n → EReal) : ∑ k, (half * w k) * x k = half * ∑ k, x k * w k := by
  have h : ∀ s : Finset (Fin n), ∑ k ∈ s, (half * w k) * x k = half * ∑ k ∈ s, x k * w k := by
    intro s
    induction s using Finset.induction_on with
    | empty => simp
    | insert a s ha ih => rw [Finset.sum_insert ha, Finset.sum_insert ha, half_add, ih, mul_assoc, mul_comm (w a)]
  exact h Finset.univ

theorem fin_coe (r : ℝ) : Fin' (r : EReal) := ⟨r, rfl⟩
theorem fin_zero : Fin' 0 := ⟨0, rfl⟩
theorem fin_add {a b : EReal} (ha : Fin' a) (hb : Fin' b) : Fin' (a + b) := by
  obtain ⟨r, rfl⟩ := ha; obtain ⟨s, rfl⟩ := hb; exact ⟨r + s, (EReal.coe_add r s).symm⟩
theorem fin_mul {a b : EReal} (ha : Fin' a) (hb : Fin' b) : Fin' (a * b) := by
  obtain ⟨r, rfl⟩ := ha; obtain ⟨s, rfl⟩ := hb; exact ⟨r * s, (EReal.coe_mul r s).symm⟩
theorem fin_sum {n : ℕ} {f : Fin n → EReal} (h : ∀ k, Fin' (f k)) : Fin' (∑ k, f k) := by
  choose g hg using h
  refine ⟨∑ k, g k, ?_⟩
  have : ∀ s : Finset (Fin n), ∑ k ∈ s, f k = ((∑ k ∈ s, g k : ℝ) : EReal) := by
    intro s
    induction s using Finset.induction_on with
    | empty => simp
    | insert a s ha ih => rw [Finset.sum_insert ha, Finset.sum_insert ha, ih, hg, EReal.coe_add]
  exact this Finset.univ

/-- The hyperbolic tangent is finite everywhere. -/
theorem fin_tanh (x : EReal) : Fin' (Ideal.tanh x) := by
  induction x using EReal.rec with
  | bot => exact ⟨-1, rfl⟩
  | coe r => exact ⟨Real.tanh r, rfl⟩
  | top => exact ⟨1, rfl⟩

/-- The logistic function of `a` is `1/2 + t/2` where `t` is the hyperbolic tangent of `a/2`. -/
theorem logistic_eq (a : EReal) : ∃ t : ℝ, Ideal.tanh (half * a) = (t : EReal)
    ∧ Ideal.logistic a = ((1 / 2 + 1 / 2 * t : ℝ) : EReal) := by
  induction a using EReal.rec with
  | bot =>
    refine ⟨-1, ?_, ?_⟩
    · rw [half, EReal.coe_mul_bot_of_pos (by norm_num)]; rfl
    · rw [Ideal.logistic_bot]; norm_num
  | coe r =>
    refine ⟨Real.tanh (1 / 2 * r), ?_, ?_⟩
    · rw [half, ← EReal.coe_mul]; rfl
    · rw [Ideal.logistic_coe]
      congr 1
      rw [Real.tanh_eq_sinh_div_cosh, Real.sinh_eq, Real.cosh_eq]
      have h1 : Real.exp (-r) = Real.exp (-(1 / 2 * r)) * Real.exp (-(1 / 2 * r)) := by
        rw [← Real.exp_add]; congr 1; ring
      have h2 : Real.exp (1 / 2 * r) * Real.exp (-(1 / 2 * r)) = 1 := by
        rw [← Real.exp_add]; simp
      have h3 := Real.exp_pos (1 / 2 * r)
      have h4 := Real.exp_pos (-(1 / 2 * r))
      rw [h1]
      generalize Real.exp (1 / 2 * r) = p at *
      generalize Real.exp (-(1 / 2 * r)) = q at *
      have h5 : p + q ≠ 0 := by positivity
      have h6 : 1 + q * q ≠ 0 := by positivity
      field_simp
      nlinarith [h2]
  | top =>
    refine ⟨1, ?_, ?_⟩
    · rw [half, EReal.coe_mul_top_of_pos (by norm_num)]; rfl
    · rw [Ideal.logistic_top]; norm_num

/-- One unit of the cell, plainly: gates `az`, `ar` before the logistic function, candidate parts `xh`, `rh`. -/
def cell (az ar xh rh h : EReal) : EReal :=
  Ideal.logistic az * h + (1 - Ideal.logistic az) * Ideal.tanh (xh + Ideal.logistic ar * rh)

/-- One unit of the cell in the kernel's form. -/
def kcell (sz sr xh rh h : EReal) : EReal :=
  half * (h + Ideal.tanh ((xh + rh) + Ideal.tanh sr * rh))
    + (half * Ideal.tanh sz) * (h - Ideal.tanh ((xh + rh) + Ideal.tanh sr * rh))

/-- The two forms agree when the state and the recurrent part of the candidate are finite. -/
theorem kcell_eq (az ar xh rh h : EReal) (hr : Fin' rh) (hh : Fin' h) :
    kcell (half * az) (half * ar) xh (half * rh) h = cell az ar xh rh h := by
  obtain ⟨r, rfl⟩ := hr
  obtain ⟨s, rfl⟩ := hh
  obtain ⟨tz, h1, h2⟩ := logistic_eq az
  obtain ⟨tr, h3, h4⟩ := logistic_eq ar
  rw [kcell, cell, h1, h2, h3, h4]
  have e : (xh + half * (r : EReal)) + (tr : EReal) * (half * (r : EReal)) = xh + ((1 / 2 + 1 / 2 * tr : ℝ) : EReal) * (r : EReal) := by
    rw [half, ← EReal.coe_mul, ← EReal.coe_mul, ← EReal.coe_mul, add_assoc, ← EReal.coe_add]
    congr 2; ring
  rw [e]
  obtain ⟨y, hy⟩ := fin_tanh (xh + ((1 / 2 + 1 / 2 * tr : ℝ) : EReal) * (r : EReal))
  rw [hy, half, ← EReal.coe_one]
  norm_cast
  ring

/-- The new state is finite. -/
theorem fin_cell (az ar xh rh h : EReal) (hh : Fin' h) : Fin' (cell az ar xh rh h) := by
  obtain ⟨s, rfl⟩ := hh
  obtain ⟨tz, _, h2⟩ := logistic_eq az
  obtain ⟨y, hy⟩ := fin_tanh (xh + Ideal.logistic ar * rh)
  rw [cell, h2, hy, ← EReal.coe_one]
  norm_cast
  exact fin_coe _

/-- The kernel's form keeps a state at one when its update gate is saturated and its candidate is zero. -/
theorem kcell_one (sr xh : EReal) (hx : xh = 0) : kcell ⊤ sr xh 0 1 = 1 := by
  have e : Ideal.tanh ((xh + 0) + Ideal.tanh sr * 0) = ((0 : ℝ) : EReal) := by
    rw [hx, mul_zero, add_zero, add_zero]
    show ((Real.tanh 0 : ℝ) : EReal) = _
    rw [Real.tanh_zero]
  rw [kcell, e]
  show half * (1 + ((0 : ℝ) : EReal)) + (half * ((1 : ℝ) : EReal)) * (1 - ((0 : ℝ) : EReal)) = 1
  rw [half, ← EReal.coe_one]
  norm_cast
  norm_num

/-- The kernel's form keeps a state at zero when its candidate is zero. -/
theorem kcell_zero (sz sr xh : EReal) (hx : xh = 0) : kcell sz sr xh 0 0 = 0 := by
  have e : Ideal.tanh ((xh + 0) + Ideal.tanh sr * 0) = ((0 : ℝ) : EReal) := by
    rw [hx, mul_zero, add_zero, add_zero]
    show ((Real.tanh 0 : ℝ) : EReal) = _
    rw [Real.tanh_zero]
  rw [kcell, e, EReal.coe_zero, add_zero, mul_zero, sub_zero, mul_zero, add_zero]

/-- Column of unit `u` in gate `g`. -/
def col (g : Fin 3) (u : Fin 48) : Fin 144 := ⟨g.val * 48 + u.val, by omega⟩

/-- The input part of unit `u` of gate `g`: inputs `x`, weights `K`, biases `B`. -/
def inPart (K : Fin 16 → Fin 144 → EReal) (B : Fin 2 → Fin 144 → EReal) (x : Fin 16 → EReal) (g : Fin 3) (u : Fin 48) : EReal :=
  (∑ k, x k * K k (col g u)) + B 0 (col g u)

/-- The recurrent part of unit `u` of gate `g`: states `h`, weights `R`, biases `B`. -/
def recPart (R : Fin 48 → Fin 144 → EReal) (B : Fin 2 → Fin 144 → EReal) (h : Fin 48 → EReal) (g : Fin 3) (u : Fin 48) : EReal :=
  (∑ l, h l * R l (col g u)) + B 1 (col g u)

/-- One step of the recurrence for unit `u`: weights `K`, `R`, biases `B`, inputs `x`, states `h`. -/
def gru (K : Fin 16 → Fin 144 → EReal) (R : Fin 48 → Fin 144 → EReal) (B : Fin 2 → Fin 144 → EReal)
    (x : Fin 16 → EReal) (h : Fin 48 → EReal) (u : Fin 48) : EReal :=
  cell (inPart K B x 0 u + recPart R B h 0 u) (inPart K B x 1 u + recPart R B h 1 u) (inPart K B x 2 u) (recPart R B h 2 u) (h u)

/-- The states after `n` steps from `h0`, with the inputs `x n` at step `n`. -/
def states (K : Fin 16 → Fin 144 → EReal) (R : Fin 48 → Fin 144 → EReal) (B : Fin 2 → Fin 144 → EReal)
    (x : ℕ → Fin 16 → EReal) (h0 : Fin 48 → EReal) : ℕ → Fin 48 → EReal
  | 0 => h0
  | n + 1 => gru K R B (x n) (states K R B x h0 n)

/-- The states stay finite. -/
theorem fin_states (K : Fin 16 → Fin 144 → EReal) (R : Fin 48 → Fin 144 → EReal) (B : Fin 2 → Fin 144 → EReal)
    (x : ℕ → Fin 16 → EReal) (h0 : Fin 48 → EReal) (hh : ∀ u, Fin' (h0 u)) (n : ℕ) (u : Fin 48) :
    Fin' (states K R B x h0 n u) := by
  induction n generalizing u with
  | zero => exact hh u
  | succ n ih => exact fin_cell _ _ _ _ _ (ih u)

end Cert.Cell
-- ==== Proof.StepValue.lean ====
/- One recurrent step of the kernel, read at one row and one example. -/
module

public import proofs.«01_k».proof.Proof.Block
public import proofs.«01_k».proof.Proof.Cell
public import Idealize.ShloMosaic.Lib.Pointwise

@[expose] public section

set_option maxRecDepth 16384

noncomputable section

namespace Cert.KernelIdeal.Block

open Idealize.ShloMosaic Cert.KernelIdeal.Gen Cert.Cell

/-- The constant one half. -/
theorem ofBits_half : Ideal.ofBits .f32 0x3F000000#32 = half := by
  simp [Ideal.ofBits, Ideal.ieee, half]
  norm_num
  rw [← EReal.coe_mul]
  norm_num

/-- Row `u` of gate `g` among the stacked rows. -/
def row (g : Fin 3) (u : Fin 104) : Fin 312 := ⟨g.val * 104 + u.val, by omega⟩

/-- Row `r` of the products of the input weights with the inputs of example `q`. -/
def xrow (K : FVec Ideal S312x16 .f32) (x : FVec Ideal S16x2048 .f32) (q : Fin 2048) (r : Fin 312) : EReal :=
  ∑ k : Fin 16, K (ix2 r k) * x (ix2 k q)

/-- Row `r` of the products of the recurrent weights with the states of example `q`. -/
def hrow (R : FVec Ideal S312x104 .f32) (h : FVec Ideal S104x2048 .f32) (q : Fin 2048) (r : Fin 312) : EReal :=
  ∑ l : Fin 104, R (ix2 r l) * h (ix2 l q)

/-- A step at row `p` and example `q` is the cell in the kernel's form. -/
theorem hStep_apply (R : FVec Ideal S312x104 .f32) (K : FVec Ideal S312x16 .f32) (b : FVec Ideal S104x1 .f32)
    (x : FVec Ideal S16x2048 .f32) (h : FVec Ideal S104x2048 .f32) (p : Fin 104) (q : Fin 2048) :
    hStep R K b x h (ix2 p q)
      = kcell (xrow K x q (row 0 p) + hrow R h q (row 0 p)) (xrow K x q (row 1 p) + hrow R h q (row 1 p))
          (xrow K x q (row 2 p) + b (ix2 p 0)) (hrow R h q (row 2 p)) (h (ix2 p q)) := by
  have e0 : row 0 p = ⟨p.val, by omega⟩ := Fin.ext (by show 0 * 104 + p.val = p.val; omega)
  have e1 : row 1 p = ⟨104 + p.val, by omega⟩ := Fin.ext (by show 1 * 104 + p.val = 104 + p.val; omega)
  have e2 : row 2 p = ⟨208 + p.val, by omega⟩ := Fin.ext (by show 2 * 104 + p.val = 208 + p.val; omega)
  rw [e0, e1, e2]
  unfold hStep
  pointwise
  unfold kcell xrow hrow
  rw [ofBits_half]

end Cert.KernelIdeal.Block
-- ==== Proof.Packed.lean ====
/- The packed weights the host prepares for the kernel, as functions of the arguments, read at an index. -/
module

public import proofs.«01_k».proof.Proof.StepValue

@[expose] public section

set_option maxRecDepth 16384

noncomputable section

namespace Cert.KernelIdeal.Packed

open Idealize.ShloMosaic
open Cert.KernelIdeal.Gen Cert.KernelIdeal.Block Cert.Cell

/-- One half for the two gates, one for the candidate. -/
def scale : FVec Ideal S3x1x1 .f32 :=
  concatenate S3x1x1 0 [⟨S2x1x1, broadcastInDim S2x1x1 ![] bcast_S_S2x1x1 (constant (F := Ideal) S_ .f32 0x3F000000#32)⟩,
    ⟨S1x1x1, broadcastInDim S1x1x1 ![] bcast_S_S1x1x1 (constant (F := Ideal) S_ .f32 0x3F800000#32)⟩] concatenates_S2x1x1_S1x1x1_S3x1x1_d0

/-- The input weights of one table's recurrence, a row per unit and gate, the gates scaled. -/
def kpart (a : FVec Ideal S16x144 .f32) : FVec Ideal S3x48x16 .f32 :=
  mulf (broadcastInDim S3x48x16 ![0, 1, 2] bcast_S3x1x1_S3x48x16_0_1_2 scale)
    (shapeCast S3x48x16 (transpose S144x16 [1, 0] a transposes_S16x144_S144x16_1_0) shapeCasts_S144x16_S3x48x16)

/-- The input weights of all gates, stacked. -/
def kmat (a2 a6 : FVec Ideal S16x144 .f32) : FVec Ideal S312x16 .f32 :=
  shapeCast S312x16 (concatenate S3x104x16 1 [⟨S3x48x16, kpart a2⟩, ⟨S3x48x16, kpart a6⟩,
    ⟨S3x8x16, broadcastInDim S3x8x16 ![] bcast_S_S3x8x16 (constant (F := Ideal) S_ .f32 0x00000000#32)⟩]
    concatenates_S3x48x16_S3x48x16_S3x8x16_S3x104x16_d1) shapeCasts_S3x104x16_S312x16

/-- The scaling factor of gate `g`. -/
def fac (g : Fin 3) : EReal := if g.val < 2 then half else 1

theorem kpart_apply (a : FVec Ideal S16x144 .f32) (g : Fin 3) (u : Fin 48) (k : Fin 16) :
    kpart a (ix3 g u k) = fac g * a (ix2 k ⟨g.val * 48 + u.val, by omega⟩) := by
  unfold kpart scale fac
  pointwise
  rw [ofBits_half]
  rfl

theorem kmat_apply (a2 a6 : FVec Ideal S16x144 .f32) (g : Fin 3) (u : Fin 104) (k : Fin 16) :
    kmat a2 a6 (ix2 ⟨g.val * 104 + u.val, by omega⟩ k)
      = if h : u.val < 48 then kpart a2 (ix3 g ⟨u.val, h⟩ k)
        else if h' : u.val - 48 < 48 then kpart a6 (ix3 g ⟨u.val - 48, h'⟩ k) else 0 := by
  unfold kmat
  pointwise

/-- The recurrent weights of one table's recurrence, a row per unit and gate, halved. -/
def rpart (a : FVec Ideal S48x144 .f32) : FVec Ideal S3x48x48 .f32 :=
  mulf (broadcastInDim S3x48x48 ![] bcast_S_S3x48x48 (constant (F := Ideal) S_ .f32 0x3F000000#32))
    (shapeCast S3x48x48 (transpose S144x48 [1, 0] a transposes_S48x144_S144x48_1_0) shapeCasts_S144x48_S3x48x48)

theorem rpart_apply (a : FVec Ideal S48x144 .f32) (g : Fin 3) (u l : Fin 48) :
    rpart a (ix3 g u l) = half * a (ix2 l ⟨g.val * 48 + u.val, by omega⟩) := by
  unfold rpart
  pointwise
  rw [ofBits_half]

/-- Row `i` of a bias, a column per gate. -/
def bias0 (a : FVec Ideal S2x144 .f32) : FVec Ideal S3x48x1 .f32 :=
  shapeCast S3x48x1 (transpose S144x1 [1, 0] (extractStridedSlice S1x144 ![0, 0] a slices_S2x144_S1x144_0_0) transposes_S1x144_S144x1_1_0) shapeCasts_S144x1_S3x48x1

def bias1 (a : FVec Ideal S2x144 .f32) : FVec Ideal S3x48x1 .f32 :=
  shapeCast S3x48x1 (transpose S144x1 [1, 0] (extractStridedSlice S1x144 ![1, 0] a slices_S2x144_S1x144_1_0) transposes_S1x144_S144x1_1_0) shapeCasts_S144x1_S3x48x1

theorem bias0_apply (a : FVec Ideal S2x144 .f32) (g : Fin 3) (u : Fin 48) :
    bias0 a (ix3 g u 0) = a (ix2 0 ⟨g.val * 48 + u.val, by omega⟩) := by
  unfold bias0
  pointwise

theorem bias1_apply (a : FVec Ideal S2x144 .f32) (g : Fin 3) (u : Fin 48) :
    bias1 a (ix3 g u 0) = a (ix2 1 ⟨g.val * 48 + u.val, by omega⟩) := by
  unfold bias1
  pointwise

/-- The input biases of both recurrences, and the recurrent ones. -/
def bi (a4 a8 : FVec Ideal S2x144 .f32) : FVec Ideal S3x96x1 .f32 :=
  concatenate S3x96x1 1 [⟨S3x48x1, bias0 a4⟩, ⟨S3x48x1, bias0 a8⟩] concatenates_S3x48x1_S3x48x1_S3x96x1_d1

def br (a4 a8 : FVec Ideal S2x144 .f32) : FVec Ideal S3x96x1 .f32 :=
  concatenate S3x96x1 1 [⟨S3x48x1, bias1 a4⟩, ⟨S3x48x1, bias1 a8⟩] concatenates_S3x48x1_S3x48x1_S3x96x1_d1

/-- The column of biases: half the sum of both for the gates, half the recurrent one for the candidate. -/
def bcol (a4 a8 : FVec Ideal S2x144 .f32) : FVec Ideal S3x96x1 .f32 :=
  concatenate S3x96x1 0
    [⟨S2x96x1, mulf (broadcastInDim S2x96x1 ![] bcast_S_S2x96x1 (constant (F := Ideal) S_ .f32 0x3F000000#32))
        (addf (extractStridedSlice S2x96x1 ![0, 0, 0] (bi a4 a8) slices_S3x96x1_S2x96x1_0_0_0)
          (extractStridedSlice S2x96x1 ![0, 0, 0] (br a4 a8) slices_S3x96x1_S2x96x1_0_0_0))⟩,
     ⟨S1x96x1, mulf (broadcastInDim S1x96x1 ![] bcast_S_S1x96x1 (constant (F := Ideal) S_ .f32 0x3F000000#32))
        (extractStridedSlice S1x96x1 ![2, 0, 0] (br a4 a8) slices_S3x96x1_S1x96x1_2_0_0)⟩]
    concatenates_S2x96x1_S1x96x1_S3x96x1_d0

theorem bcol_apply (a4 a8 : FVec Ideal S2x144 .f32) (g : Fin 3) (u : Fin 96) :
    bcol a4 a8 (ix3 g u 0) = if g.val < 2 then half * (bi a4 a8 (ix3 g u 0) + br a4 a8 (ix3 g u 0))
      else half * br a4 a8 (ix3 2 u 0) := by
  unfold bcol
  pointwise
  rw [ofBits_half]
  by_cases hg : g.val < 2
  · rw [dif_pos hg, if_pos hg]
  · obtain rfl : g = 2 := Fin.ext (by omega)
    rfl

theorem bi_apply (a4 a8 : FVec Ideal S2x144 .f32) (g : Fin 3) (u : Fin 96) :
    bi a4 a8 (ix3 g u 0) = if h : u.val < 48 then bias0 a4 (ix3 g ⟨u.val, h⟩ 0) else bias0 a8 (ix3 g ⟨u.val - 48, by omega⟩ 0) := by
  unfold bi
  pointwise

theorem br_apply (a4 a8 : FVec Ideal S2x144 .f32) (g : Fin 3) (u : Fin 96) :
    br a4 a8 (ix3 g u 0) = if h : u.val < 48 then bias1 a4 (ix3 g ⟨u.val, h⟩ 0) else bias1 a8 (ix3 g ⟨u.val - 48, by omega⟩ 0) := by
  unfold br
  pointwise

/-- The recurrent weights of all gates, stacked, with the column of biases. -/
def rmat (a3 a7 : FVec Ideal S48x144 .f32) (a4 a8 : FVec Ideal S2x144 .f32) : FVec Ideal S312x104 .f32 :=
  concatenate S312x104 1
    [⟨S312x48, shapeCast S312x48 (concatenate S3x104x48 1 [⟨S3x48x48, rpart a3⟩,
        ⟨S3x56x48, broadcastInDim S3x56x48 ![] bcast_S_S3x56x48 (constant (F := Ideal) S_ .f32 0x00000000#32)⟩]
        concatenates_S3x48x48_S3x56x48_S3x104x48_d1) shapeCasts_S3x104x48_S312x48⟩,
     ⟨S312x48, shapeCast S312x48 (concatenate S3x104x48 1
        [⟨S3x48x48, broadcastInDim S3x48x48 ![] bcast_S_S3x48x48 (constant (F := Ideal) S_ .f32 0x00000000#32)⟩,
         ⟨S3x48x48, rpart a7⟩, ⟨S3x8x48, broadcastInDim S3x8x48 ![] bcast_S_S3x8x48 (constant (F := Ideal) S_ .f32 0x00000000#32)⟩]
        concatenates_S3x48x48_S3x48x48_S3x8x48_S3x104x48_d1) shapeCasts_S3x104x48_S312x48⟩,
     ⟨S312x1, shapeCast S312x1 (concatenate S3x104x1 1 [⟨S3x96x1, bcol a4 a8⟩,
        ⟨S3x8x1, broadcastInDim S3x8x1 ![] bcast_S_S3x8x1 (constant (F := Ideal) S_ .f32 0x00000000#32)⟩]
        concatenates_S3x96x1_S3x8x1_S3x104x1_d1) shapeCasts_S3x104x1_S312x1⟩,
     ⟨S312x7, broadcastInDim S312x7 ![] bcast_S_S312x7 (constant (F := Ideal) S_ .f32 0x00000000#32)⟩]
    concatenates_S312x48_S312x48_S312x1_S312x7_S312x104_d1

theorem rmat_apply (a3 a7 : FVec Ideal S48x144 .f32) (a4 a8 : FVec Ideal S2x144 .f32) (g : Fin 3) (u l : Fin 104) :
    rmat a3 a7 a4 a8 (ix2 ⟨g.val * 104 + u.val, by omega⟩ l)
      = if hl : l.val < 48 then (if h : u.val < 48 then rpart a3 (ix3 g ⟨u.val, h⟩ ⟨l.val, hl⟩) else 0)
        else if hl' : l.val - 48 < 48 then
          (if u.val < 48 then 0 else if h : u.val - 48 < 48 then rpart a7 (ix3 g ⟨u.val - 48, h⟩ ⟨l.val - 48, hl'⟩) else 0)
        else if l.val - 48 - 48 < 1 then (if h : u.val < 96 then bcol a4 a8 (ix3 g ⟨u.val, h⟩ 0) else 0) else 0 := by
  unfold rmat
  pointwise
  rfl

/-- The candidate's input biases. -/
def bih (a4 a8 : FVec Ideal S2x144 .f32) : FVec Ideal S104x1 .f32 :=
  concatenate S104x1 0
    [⟨S96x1, shapeCast S96x1 (extractStridedSlice S1x96x1 ![2, 0, 0] (bi a4 a8) slices_S3x96x1_S1x96x1_2_0_0) shapeCasts_S1x96x1_S96x1⟩,
     ⟨S8x1, broadcastInDim S8x1 ![] bcast_S_S8x1 (constant (F := Ideal) S_ .f32 0x00000000#32)⟩]
    concatenates_S96x1_S8x1_S104x1_d0

theorem bih_apply (a4 a8 : FVec Ideal S2x144 .f32) (u : Fin 104) :
    bih a4 a8 (ix2 u 0) = if h : u.val < 96 then bi a4 a8 (ix3 2 ⟨u.val, h⟩ 0) else 0 := by
  unfold bih
  pointwise

end Cert.KernelIdeal.Packed
-- ==== Proof.HostArrays.lean ====
/- What the arrays the kernel is launched on hold: the operations of the host before the launch, read at an index. -/
module

public import proofs.«01_k».proof.Proof.Region
public import proofs.«01_k».proof.Proof.Packed
public import Idealize.ShloMosaic.Lib.StableHlo.RunRead
public import Idealize.ShloMosaic.Lib.Pipeline.ValueKit
public import Idealize.ShloMosaic.Lib.Routing.OpsSet

@[expose] public section

set_option maxRecDepth 16384

noncomputable section

namespace Cert.KernelIdeal.Body

open Idealize.ShloMosaic Idealize.ShloMosaic.TcCoe Idealize.ShloMosaic.Tactic
open Cert.KernelIdeal.Gen Cert.KernelIdeal.Block Cert.KernelIdeal.Packed Cert.Cell

variable (m : (ℓ : Loc nD τ sig) → Buf (Elt Ideal) ℓ) (c : Dev nD)

/-- The inputs of every example in one row. -/
theorem V_x : V m c main_v0 = shapeCast S16384x320 (m ((c : Thread nD τ).loc main_arg0)) shapeCasts_S16384x20x16_S16384x320 := by
  unfold_abbrev_sides
  after_reads_simp
  rfl

/-- The stacked input weights. -/
theorem V_k : V m c main_v14 = kmat (m ((c : Thread nD τ).loc main_arg2)) (m ((c : Thread nD τ).loc main_arg6)) := by
  unfold_abbrev_sides
  after_reads_simp
  rfl

/-- The recurrent weights of the first table's recurrence, with zeros below. -/
theorem V_r0 : (StableHlo.upto [hostOps0].flatten (fun b => m (c, b)) 69 (Proc.tc.devRef main_v21) : FVec Ideal S312x48 .f32)
    = shapeCast S312x48 (concatenate S3x104x48 1 [⟨S3x48x48, rpart (m ((c : Thread nD τ).loc main_arg3))⟩,
        ⟨S3x56x48, broadcastInDim S3x56x48 ![] bcast_S_S3x56x48 (constant (F := Ideal) S_ .f32 0x00000000#32)⟩]
        concatenates_S3x48x48_S3x56x48_S3x104x48_d1) shapeCasts_S3x104x48_S312x48 := by
  after_reads_simp
  rfl

/-- The recurrent weights of the second table's recurrence, with zeros above and below. -/
theorem V_r1 : (StableHlo.upto [hostOps0].flatten (fun b => m (c, b)) 69 (Proc.tc.devRef main_v29) : FVec Ideal S312x48 .f32)
    = shapeCast S312x48 (concatenate S3x104x48 1
        [⟨S3x48x48, broadcastInDim S3x48x48 ![] bcast_S_S3x48x48 (constant (F := Ideal) S_ .f32 0x00000000#32)⟩,
         ⟨S3x48x48, rpart (m ((c : Thread nD τ).loc main_arg7))⟩,
         ⟨S3x8x48, broadcastInDim S3x8x48 ![] bcast_S_S3x8x48 (constant (F := Ideal) S_ .f32 0x00000000#32)⟩]
        concatenates_S3x48x48_S3x48x48_S3x8x48_S3x104x48_d1) shapeCasts_S3x104x48_S312x48 := by
  after_reads_simp
  rfl

/-- The biases of the two gates. -/
theorem V_b01 : (StableHlo.upto [hostOps0].flatten (fun b => m (c, b)) 62 (Proc.tc.devRef main_v48) : FVec Ideal S2x96x1 .f32)
    = mulf (broadcastInDim S2x96x1 ![] bcast_S_S2x96x1 (constant (F := Ideal) S_ .f32 0x3F000000#32))
        (addf (extractStridedSlice S2x96x1 ![0, 0, 0] (bi (m ((c : Thread nD τ).loc main_arg4)) (m ((c : Thread nD τ).loc main_arg8))) slices_S3x96x1_S2x96x1_0_0_0)
          (extractStridedSlice S2x96x1 ![0, 0, 0] (br (m ((c : Thread nD τ).loc main_arg4)) (m ((c : Thread nD τ).loc main_arg8))) slices_S3x96x1_S2x96x1_0_0_0)) := by
  after_reads_simp
  rfl

/-- The biases of the candidate. -/
theorem V_b2 : (StableHlo.upto [hostOps0].flatten (fun b => m (c, b)) 62 (Proc.tc.devRef main_v51) : FVec Ideal S1x96x1 .f32)
    = mulf (broadcastInDim S1x96x1 ![] bcast_S_S1x96x1 (constant (F := Ideal) S_ .f32 0x3F000000#32))
        (extractStridedSlice S1x96x1 ![2, 0, 0] (br (m ((c : Thread nD τ).loc main_arg4)) (m ((c : Thread nD τ).loc main_arg8))) slices_S3x96x1_S1x96x1_2_0_0) := by
  after_reads_simp
  rfl

/-- The column of biases. -/
theorem V_bcol : (StableHlo.upto [hostOps0].flatten (fun b => m (c, b)) 65 (Proc.tc.devRef main_v52) : FVec Ideal S3x96x1 .f32) = bcol (m ((c : Thread nD τ).loc main_arg4)) (m ((c : Thread nD τ).loc main_arg8)) := by
  unfold bcol
  rw [← V_b01 m c, ← V_b2 m c]
  after_reads_simp

/-- The column of biases, with zeros below. -/
theorem V_r2 : (StableHlo.upto [hostOps0].flatten (fun b => m (c, b)) 69 (Proc.tc.devRef main_v55) : FVec Ideal S312x1 .f32)
    = shapeCast S312x1 (concatenate S3x104x1 1 [⟨S3x96x1, bcol (m ((c : Thread nD τ).loc main_arg4)) (m ((c : Thread nD τ).loc main_arg8))⟩,
        ⟨S3x8x1, broadcastInDim S3x8x1 ![] bcast_S_S3x8x1 (constant (F := Ideal) S_ .f32 0x00000000#32)⟩]
        concatenates_S3x96x1_S3x8x1_S3x104x1_d1) shapeCasts_S3x104x1_S312x1 := by
  rw [← V_bcol m c]
  after_reads_simp
  rfl

/-- Zeros. -/
theorem V_r3 : (StableHlo.upto [hostOps0].flatten (fun b => m (c, b)) 69 (Proc.tc.devRef main_v56) : FVec Ideal S312x7 .f32)
    = broadcastInDim S312x7 ![] bcast_S_S312x7 (constant (F := Ideal) S_ .f32 0x00000000#32) := by
  after_reads_simp

/-- The stacked recurrent weights. -/
theorem V_r : V m c main_v57 = rmat (m ((c : Thread nD τ).loc main_arg3)) (m ((c : Thread nD τ).loc main_arg7))
    (m ((c : Thread nD τ).loc main_arg4)) (m ((c : Thread nD τ).loc main_arg8)) := by
  unfold_abbrev_sides
  after_reads_simp
  show concatenate S312x104 1
    [⟨S312x48, (StableHlo.upto [hostOps0].flatten (fun b => m (c, b)) 69 (Proc.tc.devRef main_v21) : FVec Ideal S312x48 .f32)⟩,
     ⟨S312x48, (StableHlo.upto [hostOps0].flatten (fun b => m (c, b)) 69 (Proc.tc.devRef main_v29) : FVec Ideal S312x48 .f32)⟩,
     ⟨S312x1, (StableHlo.upto [hostOps0].flatten (fun b => m (c, b)) 69 (Proc.tc.devRef main_v55) : FVec Ideal S312x1 .f32)⟩,
     ⟨S312x7, (StableHlo.upto [hostOps0].flatten (fun b => m (c, b)) 69 (Proc.tc.devRef main_v56) : FVec Ideal S312x7 .f32)⟩]
    concatenates_S312x48_S312x48_S312x1_S312x7_S312x104_d1 = _
  rw [V_r0, V_r1, V_r2, V_r3]
  rfl

/-- The stacked input biases of the candidate. -/
theorem V_b : V m c main_v61 = bih (m ((c : Thread nD τ).loc main_arg4)) (m ((c : Thread nD τ).loc main_arg8)) := by
  unfold_abbrev_sides
  after_reads_simp
  rfl

/-- The output bias. -/
theorem V_ob : V m c main_v62 = shapeCast S1x1 (m ((c : Thread nD τ).loc main_arg10)) shapeCasts_S1_S1x1 := by
  unfold_abbrev_sides
  after_reads_simp
  rfl

/-- The category table with a row of zeros below. -/
def padded (a : FVec Ideal S15x48 .f32) : FVec Ideal S16x48 .f32 :=
  Host.scatter scatter_S16x48_S1_S15x48_01_n_0_0 (fun _ b => b)
    (broadcastInDim S16x48 ![] bcast_S_S16x48 (constant (F := Ideal) S_ .f32 0x00000000#32))
    (broadcastInDim S1 ![] bcast_S_S1 (constantI S_ 32 0#32)) a

theorem V_cat : V m c main_v65 = padded (m ((c : Thread nD τ).loc main_arg5)) := by
  unfold_abbrev_sides
  after_reads_simp
  rfl

end Cert.KernelIdeal.Body
-- ==== Proof.HostBlocks.lean ====
/- What the kernel's blocks hold at each point, as functions of the arguments. -/
module

public import proofs.«01_k».proof.Proof.HostArrays

@[expose] public section

set_option maxRecDepth 16384

noncomputable section

namespace Cert.KernelIdeal.Body

open Idealize.ShloMosaic Idealize.ShloMosaic.TcCoe Idealize.ShloMosaic.Tactic
open Cert.KernelIdeal.Gen Cert.KernelIdeal.Block Cert.KernelIdeal.Packed Cert.Cell

/-- The padded table's first fifteen rows are the table's. -/
theorem padded_apply (a : FVec Ideal S15x48 .f32) (r : Fin 15) (u : Fin 48) : padded a (ix2 ⟨r.val, by omega⟩ u) = a (ix2 r u) := by
  unfold padded
  have key : ∀ (k : S15x48.Idx) (ι : S16x48.Idx), scatter_S16x48_S1_S15x48_01_n_0_0.resultIdx? k (broadcastInDim S1 ![] bcast_S_S1 (constantI S_ 32 0#32)) = some ι
      ↔ (k 0).val = (ι 0).val ∧ (k 1).val = (ι 1).val := by
    intro k ι
    have e0 : scatter_S16x48_S1_S15x48_01_n_0_0.start k (broadcastInDim S1 ![] bcast_S_S1 (constantI S_ 32 0#32)) 0 = 0 := by
      unfold ScatterDims.start
      rw [dif_pos (by decide)]
      rfl
    have e1 : scatter_S16x48_S1_S15x48_01_n_0_0.start k (broadcastInDim S1 ![] bcast_S_S1 (constantI S_ 32 0#32)) 1 = 0 := by
      unfold ScatterDims.start
      rw [dif_neg (by decide)]
    have w0 : scatter_S16x48_S1_S15x48_01_n_0_0.window k 0 = (k 0).val := by
      unfold ScatterDims.window
      rw [dif_pos (by decide)]
      rfl
    have w1 : scatter_S16x48_S1_S15x48_01_n_0_0.window k 1 = (k 1).val := by
      unfold ScatterDims.window
      rw [dif_pos (by decide)]
      rfl
    rw [Routing.resultIdx?_eq_some]
    constructor
    · intro h
      have h0 := h 0
      have h1 := h 1
      rw [e0, w0] at h0
      rw [e1, w1] at h1
      exact ⟨by simpa using h0, by simpa using h1⟩
    · rintro ⟨h0, h1⟩ a
      match a with
      | ⟨0, _⟩ => exact (congrArg₂ (fun x (y : ℕ) => x + (y : ℤ)) e0 w0).trans (by simpa using h0)
      | ⟨1, _⟩ => exact (congrArg₂ (fun x (y : ℕ) => x + (y : ℤ)) e1 w1).trans (by simpa using h1)
  refine Routing.scatter_set_hit _ _ _ _ _ _ (fun k hk => ?_) (ix2 r u) ((key _ _).mpr ⟨rfl, rfl⟩)
  have := (key _ _).mp hk
  congr 1
  funext a
  match a with
  | 0 => exact Fin.ext this.1
  | 1 => exact Fin.ext this.2

variable (m : (ℓ : Loc nD τ sig) → Buf (Elt Ideal) ℓ) (c : Dev nD)

/-- The inputs of example `n`, in the block of its point. -/
theorem blk_0 (t : Fin cfg0.N) (q : Fin 2048) (k : Fin 320) (n : Fin 16384) (hn : n.val = t.val * 2048 + q.val) :
    iblk m c 0 t (ix2 q k) = V m c main_v0 (ix2 n k) := by
  have e := (by decide +kernel : ∀ t : Fin grid0.N, win0_0.index t = ![t.val, 0]) t
  blk_simp [iblk]
  congr 1
  blk_ext [e]

theorem x_apply (t : Fin cfg0.N) (q : Fin 2048) (j : Fin 20) (k : Fin 16) (n : Fin 16384) (hn : n.val = t.val * 2048 + q.val) :
    iblk m c 0 t (ix2 q ⟨j.val * 16 + k.val, by omega⟩) = (m ((c : Thread nD τ).loc main_arg0) : FVec Ideal S16384x20x16 .f32) (ix3 n j k) := by
  rw [blk_0 m c t q _ n hn, V_x]
  pointwise

/-- Every point's block 1 is the stacked input weights. -/
theorem blk_1 (t : Fin cfg0.N) : iblk m c 1 t = V m c main_v14 := by
  funext y
  have e := (by decide +kernel : ∀ t : Fin grid0.N, win0_1.index t = ![0, 0]) t
  blk_simp [iblk]
  congr 1
  blk_ext [e]

/-- Every point's block 2 is the stacked recurrent weights. -/
theorem blk_2 (t : Fin cfg0.N) : iblk m c 2 t = V m c main_v57 := by
  funext y
  have e := (by decide +kernel : ∀ t : Fin grid0.N, win0_2.index t = ![0, 0]) t
  blk_simp [iblk]
  congr 1
  blk_ext [e]

/-- Every point's block 3 is the input biases. -/
theorem blk_3 (t : Fin cfg0.N) : iblk m c 3 t = V m c main_v61 := by
  funext y
  have e := (by decide +kernel : ∀ t : Fin grid0.N, win0_3.index t = ![0, 0]) t
  blk_simp [iblk]
  congr 1
  blk_ext [e]

/-- Every point's block 4 is the output weights. -/
theorem blk_4 (t : Fin cfg0.N) : iblk m c 4 t = V m c main_arg9 := by
  funext y
  have e := (by decide +kernel : ∀ t : Fin grid0.N, win0_4.index t = ![0, 0]) t
  blk_simp [iblk]
  congr 1
  blk_ext [e]

/-- Every point's block 5 is the output bias. -/
theorem blk_5 (t : Fin cfg0.N) : iblk m c 5 t = V m c main_v62 := by
  funext y
  have e := (by decide +kernel : ∀ t : Fin grid0.N, win0_5.index t = ![0, 0]) t
  blk_simp [iblk]
  congr 1
  blk_ext [e]

/-- Every point's block 6 is the first table. -/
theorem blk_6 (t : Fin cfg0.N) : iblk m c 6 t = V m c main_arg1 := by
  funext y
  have e := (by decide +kernel : ∀ t : Fin grid0.N, win0_6.index t = ![0, 0]) t
  blk_simp [iblk]
  congr 1
  blk_ext [e]

/-- Every point's block 7 is the second table, padded. -/
theorem blk_7 (t : Fin cfg0.N) : iblk m c 7 t = V m c main_v65 := by
  funext y
  have e := (by decide +kernel : ∀ t : Fin grid0.N, win0_7.index t = ![0, 0]) t
  blk_simp [iblk]
  congr 1
  blk_ext [e]

end Cert.KernelIdeal.Body
-- ==== Proof.BlockStep.lean ====
/- One recurrent step of the kernel on the packed weights advances both recurrences by one step of the plain cell. -/
module

public import proofs.«01_k».proof.Proof.Packed

@[expose] public section

set_option maxRecDepth 16384

noncomputable section

namespace Cert.KernelIdeal.Packed

open Idealize.ShloMosaic
open Cert.KernelIdeal.Gen Cert.KernelIdeal.Block Cert.Cell

/-- A matrix as a function of its row and column. -/
def mat {a b : ℕ} (x : FVec Ideal ⟨2, ![a, b]⟩ .f32) (i : Fin a) (j : Fin b) : EReal := x (ix2 i j)

/-- The rows of the states of example `q`: those of the first table, those of the second, a one, zeros. -/
structure Holds (h : FVec Ideal S104x2048 .f32) (q : Fin 2048) (hc hk : Fin 48 → EReal) : Prop where
  card : ∀ u : Fin 48, h (ix2 ⟨u.val, by omega⟩ q) = hc u
  cat : ∀ u : Fin 48, h (ix2 ⟨48 + u.val, by omega⟩ q) = hk u
  one : h (ix2 96 q) = 1
  zero : ∀ v : Fin 7, h (ix2 ⟨97 + v.val, by omega⟩ q) = 0

/-- A sum over the 104 rows, by their kinds. -/
theorem sum104 (f : Fin 104 → EReal) :
    ∑ l, f l = (∑ u : Fin 48, f ⟨u.val, by omega⟩) + (∑ u : Fin 48, f ⟨48 + u.val, by omega⟩) + f 96
      + ∑ v : Fin 7, f ⟨97 + v.val, by omega⟩ := by
  rw [Fin.sum_univ_add (a := 97) (b := 7) f, Fin.sum_univ_castSucc (n := 96) (fun i => f (Fin.castAdd 7 i)),
    Fin.sum_univ_add (a := 48) (b := 48) (fun i => f (Fin.castAdd 7 (Fin.castSucc i)))]
  rfl

theorem word_eq_96 (n : ℕ) (h : n < 4294967296) : IntOp.cmpi .eq (BitVec.ofNat 32 n) 96#32 = if n = 96 then 1#1 else 0#1 := by
  have e : (BitVec.ofNat 32 n = 96#32) ↔ n = 96 := by
    constructor
    · intro q
      have := congrArg BitVec.toNat q
      rw [BitVec.toNat_ofNat, Nat.mod_eq_of_lt h] at this
      exact this
    · rintro rfl; rfl
  show BitVec.ofBool (decide (BitVec.ofNat 32 n = 96#32)) = _
  by_cases hn : n = 96
  · rw [if_pos hn, decide_eq_true (e.mpr hn)]; rfl
  · rw [if_neg hn, decide_eq_false fun q => hn (e.mp q)]; rfl

/-- The recurrent weights with the saturating entry, at an index. -/
theorem recurrent_apply (x2 : FVec Ideal S312x104 .f32) (r : Fin 312) (l : Fin 104) :
    recurrent x2 (ix2 r l) = x2 (ix2 r l) + if r.val = 96 ∧ l.val = 96 then ⊤ else 0 := by
  unfold recurrent
  pointwise [k0_pay11, k0_pay10, k0_pay9]
  rw [word_eq_96 _ (by omega), word_eq_96 _ (by omega), IdealRules.named_const.ideal_named_scalar _ _ _ _ rfl]
  by_cases hr : r.val = 96 <;> by_cases hl : l.val = 96 <;> simp only [hr, hl] <;> rfl

section Rows

variable (a3 a7 : FVec Ideal S48x144 .f32) (a4 a8 : FVec Ideal S2x144 .f32)

/-- The packed recurrent weights of a unit of the first table: its own weights, and its bias at the row of ones. -/
theorem rrow_card (g : Fin 3) (u : Fin 48) (h : FVec Ideal S104x2048 .f32) (q : Fin 2048) (hc hk : Fin 48 → EReal)
    (H : Holds h q hc hk) :
    hrow (recurrent (rmat a3 a7 a4 a8)) h q (row g ⟨u.val, by omega⟩)
      = half * (∑ l, hc l * mat a3 l (col g u)) + bcol a4 a8 (ix3 g ⟨u.val, by omega⟩ 0) := by
  unfold hrow
  rw [sum104, H.one]
  have hne : (row g ⟨u.val, by omega⟩).val ≠ 96 := by show g.val * 104 + u.val ≠ 96; omega
  have key : ∀ l, recurrent (rmat a3 a7 a4 a8) (ix2 (row g ⟨u.val, by omega⟩) l) = rmat a3 a7 a4 a8 (ix2 (row g ⟨u.val, by omega⟩) l) := by
    intro l
    rw [recurrent_apply, if_neg (fun q => hne q.1), add_zero]
  have e1 : ∀ l : Fin 48, rmat a3 a7 a4 a8 (ix2 (row g ⟨u.val, by omega⟩) ⟨l.val, by omega⟩)
      = half * mat a3 l (col g u) := by
    intro l
    unfold row
    rw [rmat_apply, dif_pos l.isLt, dif_pos u.isLt, rpart_apply]
    rfl
  have e2 : ∀ l : Fin 48, rmat a3 a7 a4 a8 (ix2 (row g ⟨u.val, by omega⟩) ⟨48 + l.val, by omega⟩) = 0 := by
    intro l
    unfold row
    rw [rmat_apply, dif_neg (by dsimp only; omega), dif_pos (by dsimp only; omega), if_pos u.isLt]
  have e3 : rmat a3 a7 a4 a8 (ix2 (row g ⟨u.val, by omega⟩) 96) = bcol a4 a8 (ix3 g ⟨u.val, by omega⟩ 0) := by
    unfold row
    rw [rmat_apply, dif_neg (by decide), dif_neg (by decide), if_pos (by decide), dif_pos (by dsimp only; omega)]
  simp only [key, e1, e2, e3, H.card, H.zero, zero_mul, mul_zero, Finset.sum_const_zero, add_zero, mul_one]
  rw [half_sum]

/-- The packed recurrent weights of a unit of the second table. -/
theorem rrow_cat (g : Fin 3) (u : Fin 48) (h : FVec Ideal S104x2048 .f32) (q : Fin 2048) (hc hk : Fin 48 → EReal)
    (H : Holds h q hc hk) :
    hrow (recurrent (rmat a3 a7 a4 a8)) h q (row g ⟨48 + u.val, by omega⟩)
      = half * (∑ l, hk l * mat a7 l (col g u)) + bcol a4 a8 (ix3 g ⟨48 + u.val, by omega⟩ 0) := by
  unfold hrow
  rw [sum104, H.one]
  have hne : (row g ⟨48 + u.val, by omega⟩).val ≠ 96 := by show g.val * 104 + (48 + u.val) ≠ 96; omega
  have key : ∀ l, recurrent (rmat a3 a7 a4 a8) (ix2 (row g ⟨48 + u.val, by omega⟩) l) = rmat a3 a7 a4 a8 (ix2 (row g ⟨48 + u.val, by omega⟩) l) := by
    intro l
    rw [recurrent_apply, if_neg (fun q => hne q.1), add_zero]
  have e1 : ∀ l : Fin 48, rmat a3 a7 a4 a8 (ix2 (row g ⟨48 + u.val, by omega⟩) ⟨48 + l.val, by omega⟩)
      = half * mat a7 l (col g u) := by
    intro l
    unfold row
    rw [rmat_apply, dif_neg (by dsimp only; omega), dif_pos (by dsimp only; omega), if_neg (by dsimp only; omega),
      dif_pos (by dsimp only; omega)]
    simp only [Nat.add_sub_cancel_left]
    rw [rpart_apply]
    rfl
  have e2 : ∀ l : Fin 48, rmat a3 a7 a4 a8 (ix2 (row g ⟨48 + u.val, by omega⟩) ⟨l.val, by omega⟩) = 0 := by
    intro l
    unfold row
    rw [rmat_apply, dif_pos l.isLt, dif_neg (by dsimp only; omega)]
  have e3 : rmat a3 a7 a4 a8 (ix2 (row g ⟨48 + u.val, by omega⟩) 96) = bcol a4 a8 (ix3 g ⟨48 + u.val, by omega⟩ 0) := by
    unfold row
    rw [rmat_apply, dif_neg (by decide), dif_neg (by decide), if_pos (by decide), dif_pos (by dsimp only; omega)]
  simp only [key, e1, e2, e3, H.cat, H.zero, zero_mul, mul_zero, Finset.sum_const_zero, add_zero, zero_add, mul_one]
  rw [half_sum]

/-- Past the units, the packed recurrent weights are zero but for the saturating entry. -/
theorem rmat_past (g : Fin 3) (u l : Fin 104) (hu : 96 ≤ u.val) : rmat a3 a7 a4 a8 (ix2 (row g u) l) = 0 := by
  unfold row
  rw [rmat_apply]
  split_ifs <;> first | rfl | omega

theorem rrow_past (g : Fin 3) (u : Fin 104) (hu : 96 ≤ u.val) (hg : ¬(g.val = 0 ∧ u.val = 96)) (h : FVec Ideal S104x2048 .f32) (q : Fin 2048) :
    hrow (recurrent (rmat a3 a7 a4 a8)) h q (row g u) = 0 := by
  unfold hrow
  refine Finset.sum_eq_zero fun l _ => ?_
  have hne : (row g u).val ≠ 96 := by show g.val * 104 + u.val ≠ 96; omega
  rw [recurrent_apply, if_neg (fun q => hne q.1), add_zero, rmat_past a3 a7 a4 a8 g u l hu, zero_mul]

theorem rrow_one (h : FVec Ideal S104x2048 .f32) (q : Fin 2048) (h1 : h (ix2 96 q) = 1) :
    hrow (recurrent (rmat a3 a7 a4 a8)) h q (row 0 96) = ⊤ := by
  unfold hrow
  have e : ∀ l : Fin 104, recurrent (rmat a3 a7 a4 a8) (ix2 (row 0 96) l) * h (ix2 l q) = if l = 96 then ⊤ else 0 := by
    intro l
    rw [recurrent_apply, rmat_past a3 a7 a4 a8 0 96 l (by decide), zero_add]
    by_cases hl : l = 96
    · subst hl
      rw [if_pos ⟨rfl, rfl⟩, if_pos rfl, h1, mul_one]
    · rw [if_neg (fun q => hl (Fin.ext q.2)), if_neg hl, zero_mul]
  simp only [e]
  exact Fintype.sum_ite_eq' 96 _

end Rows

section XRows

variable (a2 a6 : FVec Ideal S16x144 .f32) (x : FVec Ideal S16x2048 .f32) (q : Fin 2048)

theorem fac_sum (g : Fin 3) (w X : Fin 16 → EReal) : ∑ k, (fac g * w k) * X k = fac g * ∑ k, X k * w k := by
  unfold fac
  split
  · exact half_sum w X
  · simp only [one_mul]
    exact Finset.sum_congr rfl fun k _ => mul_comm _ _

theorem xrow_card (g : Fin 3) (u : Fin 48) :
    xrow (kmat a2 a6) x q (row g ⟨u.val, by omega⟩)
      = fac g * ∑ k, x (ix2 k q) * mat a2 k (col g u) := by
  unfold xrow row
  rw [← fac_sum]
  refine Finset.sum_congr rfl fun k _ => ?_
  rw [kmat_apply, dif_pos u.isLt, kpart_apply]
  rfl

theorem xrow_cat (g : Fin 3) (u : Fin 48) :
    xrow (kmat a2 a6) x q (row g ⟨48 + u.val, by omega⟩)
      = fac g * ∑ k, x (ix2 k q) * mat a6 k (col g u) := by
  unfold xrow row
  rw [← fac_sum]
  refine Finset.sum_congr rfl fun k _ => ?_
  rw [kmat_apply, dif_neg (by dsimp only; omega), dif_pos (by dsimp only; omega)]
  simp only [Nat.add_sub_cancel_left]
  rw [kpart_apply]
  rfl

theorem xrow_past (g : Fin 3) (u : Fin 104) (hu : 96 ≤ u.val) : xrow (kmat a2 a6) x q (row g u) = 0 := by
  unfold xrow row
  refine Finset.sum_eq_zero fun k _ => ?_
  rw [kmat_apply, dif_neg (by omega), dif_neg (by omega), zero_mul]

end XRows

section Bias

variable (a4 a8 : FVec Ideal S2x144 .f32)

theorem bi_card (g : Fin 3) (u : Fin 48) : bi a4 a8 (ix3 g ⟨u.val, by omega⟩ 0) = mat a4 0 (col g u) := by
  rw [bi_apply, dif_pos u.isLt, bias0_apply]; rfl
theorem br_card (g : Fin 3) (u : Fin 48) : br a4 a8 (ix3 g ⟨u.val, by omega⟩ 0) = mat a4 1 (col g u) := by
  rw [br_apply, dif_pos u.isLt, bias1_apply]; rfl
theorem bi_cat (g : Fin 3) (u : Fin 48) : bi a4 a8 (ix3 g ⟨48 + u.val, by omega⟩ 0) = mat a8 0 (col g u) := by
  rw [bi_apply, dif_neg (by dsimp only; omega), bias0_apply]
  simp only [Nat.add_sub_cancel_left]
  rfl
theorem br_cat (g : Fin 3) (u : Fin 48) : br a4 a8 (ix3 g ⟨48 + u.val, by omega⟩ 0) = mat a8 1 (col g u) := by
  rw [br_apply, dif_neg (by dsimp only; omega), bias1_apply]
  simp only [Nat.add_sub_cancel_left]
  rfl

end Bias

/-- Half of a gate's argument, put together from its halves. -/
theorem gate_half (X b H c : EReal) : half * X + (half * H + half * (b + c)) = half * ((X + b) + (H + c)) := by
  rw [← half_add, ← half_add]
  congr 1
  ac_rfl

/-- The weights and biases the states must see finite: those of the recurrent part of the candidate. -/
structure Served (R : Fin 48 → Fin 144 → EReal) (B : Fin 2 → Fin 144 → EReal) : Prop where
  weight : ∀ l u, Fin' (R l (col 2 u))
  bias : ∀ u, Fin' (B 1 (col 2 u))

theorem fin_recPart {R : Fin 48 → Fin 144 → EReal} {B : Fin 2 → Fin 144 → EReal} (s : Served R B) {h : Fin 48 → EReal}
    (hh : ∀ u, Fin' (h u)) (u : Fin 48) : Fin' (recPart R B h 2 u) :=
  fin_add (fin_sum fun l => fin_mul (hh l) (s.weight l u)) (s.bias u)

section Step

variable (a2 a6 : FVec Ideal S16x144 .f32) (a3 a7 : FVec Ideal S48x144 .f32) (a4 a8 : FVec Ideal S2x144 .f32)

/-- One step advances both recurrences. -/
theorem hStep_holds (sc : Served (mat a3) (mat a4)) (sk : Served (mat a7) (mat a8))
    (x : FVec Ideal S16x2048 .f32) (h : FVec Ideal S104x2048 .f32) (q : Fin 2048) (hc hk : Fin 48 → EReal)
    (H : Holds h q hc hk) (fc : ∀ u, Fin' (hc u)) (fk : ∀ u, Fin' (hk u)) :
    Holds (hStep (recurrent (rmat a3 a7 a4 a8)) (kmat a2 a6) (bih a4 a8) x h) q
      (gru (mat a2) (mat a3) (mat a4) (fun k => x (ix2 k q)) hc) (gru (mat a6) (mat a7) (mat a8) (fun k => x (ix2 k q)) hk) := by
  have f0 : fac 0 = half := rfl
  have f1 : fac 1 = half := rfl
  have f2 : fac 2 = 1 := rfl
  have g0 : ((0 : Fin 3).val < 2) := by decide
  have g1 : ((1 : Fin 3).val < 2) := by decide
  have g2 : ¬((2 : Fin 3).val < 2) := by decide
  refine ⟨fun u => ?_, fun u => ?_, ?_, fun v => ?_⟩
  · rw [hStep_apply, rrow_card a3 a7 a4 a8 0 u h q hc hk H, rrow_card a3 a7 a4 a8 1 u h q hc hk H,
      rrow_card a3 a7 a4 a8 2 u h q hc hk H, xrow_card, xrow_card, xrow_card, f0, f1, f2, one_mul, H.card,
      bcol_apply, bcol_apply, bcol_apply, if_pos g0, if_pos g1, if_neg g2, bi_card, bi_card, br_card, br_card, br_card,
      gate_half, gate_half, ← half_add, bih_apply, dif_pos (by dsimp only; omega), bi_card]
    exact kcell_eq _ _ _ _ _ (fin_recPart sc fc u) (fc u)
  · rw [hStep_apply, rrow_cat a3 a7 a4 a8 0 u h q hc hk H, rrow_cat a3 a7 a4 a8 1 u h q hc hk H,
      rrow_cat a3 a7 a4 a8 2 u h q hc hk H, xrow_cat, xrow_cat, xrow_cat, f0, f1, f2, one_mul, H.cat,
      bcol_apply, bcol_apply, bcol_apply, if_pos g0, if_pos g1, if_neg g2, bi_cat, bi_cat, br_cat, br_cat, br_cat,
      gate_half, gate_half, ← half_add, bih_apply, dif_pos (by dsimp only; omega), bi_cat]
    exact kcell_eq _ _ _ _ _ (fin_recPart sk fk u) (fk u)
  · rw [hStep_apply, rrow_one a3 a7 a4 a8 h q H.one, rrow_past a3 a7 a4 a8 2 96 (by decide) (by decide), H.one,
      xrow_past a2 a6 x q 0 96 (by decide), xrow_past a2 a6 x q 2 96 (by decide), zero_add, zero_add]
    exact kcell_one _ _ (by rw [bih_apply, dif_neg (by decide)])
  · rw [hStep_apply, rrow_past a3 a7 a4 a8 2 _ (by dsimp only; omega) (fun e => absurd e.1 (by decide)), H.zero,
      xrow_past a2 a6 x q 2 _ (by dsimp only; omega), zero_add]
    exact kcell_zero _ _ _ (by rw [bih_apply, dif_neg (by dsimp only; omega)])

end Step

end Cert.KernelIdeal.Packed
-- ==== Proof.BlockChain.lean ====
/- The twenty steps of one grid point, and the states they start from. -/
module

public import proofs.«01_k».proof.Proof.BlockStep

@[expose] public section

set_option maxRecDepth 16384

noncomputable section

namespace Cert.KernelIdeal.Packed

open Idealize.ShloMosaic
open Cert.KernelIdeal.Gen Cert.KernelIdeal.Block Cert.Cell

section Chain

variable (a2 a6 : FVec Ideal S16x144 .f32) (a3 a7 : FVec Ideal S48x144 .f32) (a4 a8 : FVec Ideal S2x144 .f32)
  (v5 : FVec Ideal S320x2048 .f32) (q : Fin 2048) (X : ℕ → Fin 16 → EReal) (hc hk : Fin 48 → EReal)

/-- The states of both recurrences after `n` steps. -/
def At (n : ℕ) (h : FVec Ideal S104x2048 .f32) : Prop :=
  Holds h q (states (mat a2) (mat a3) (mat a4) X hc n) (states (mat a6) (mat a7) (mat a8) X hk n)

/-- Step `n` advances the states. -/
theorem at_step (sc : Served (mat a3) (mat a4)) (sk : Served (mat a7) (mat a8)) (fc : ∀ u, Fin' (hc u)) (fk : ∀ u, Fin' (hk u))
    (hX : ∀ (n : Fin 20) (k : Fin 16), v5 (ix2 ⟨n.val * 16 + k.val, by omega⟩ q) = X n.val k)
    (n o : ℕ) (hn : n < 20) (ho : o = n * 16) (hs : S320x2048.Slices ![o, 0] S16x2048) (h : FVec Ideal S104x2048 .f32)
    (H : At a2 a6 a3 a7 a4 a8 q X hc hk n h) :
    At a2 a6 a3 a7 a4 a8 q X hc hk (n + 1)
      (hStep (recurrent (rmat a3 a7 a4 a8)) (kmat a2 a6) (bih a4 a8) (extractStridedSlice S16x2048 ![o, 0] v5 hs) h) := by
  subst ho
  have e : (fun k => extractStridedSlice S16x2048 ![n * 16, 0] v5 hs (ix2 k q)) = X n := by
    funext k
    rw [← hX ⟨n, hn⟩ k]
    pointwise
  have := hStep_holds a2 a6 a3 a7 a4 a8 sc sk (extractStridedSlice S16x2048 ![n * 16, 0] v5 hs) h q _ _ H
    (fin_states _ _ _ _ _ fc n) (fin_states _ _ _ _ _ fk n)
  rw [e] at this
  exact this

/-- All twenty steps. -/
theorem at_steps (sc : Served (mat a3) (mat a4)) (sk : Served (mat a7) (mat a8)) (fc : ∀ u, Fin' (hc u)) (fk : ∀ u, Fin' (hk u))
    (hX : ∀ (n : Fin 20) (k : Fin 16), v5 (ix2 ⟨n.val * 16 + k.val, by omega⟩ q) = X n.val k)
    (h : FVec Ideal S104x2048 .f32) (H : Holds h q hc hk) :
    At a2 a6 a3 a7 a4 a8 q X hc hk 20 (steps v5 (kmat a2 a6) (recurrent (rmat a3 a7 a4 a8)) (bih a4 a8) h) := by
  have s := at_step a2 a6 a3 a7 a4 a8 v5 q X hc hk sc sk fc fk hX
  have h1 := s 0 0 (by omega) rfl slices_S320x2048_o0_0_S16x2048 _ H
  have h2 := s 1 16 (by omega) rfl slices_S320x2048_o16_0_S16x2048 _ h1
  have h3 := s 2 32 (by omega) rfl slices_S320x2048_o32_0_S16x2048 _ h2
  have h4 := s 3 48 (by omega) rfl slices_S320x2048_o48_0_S16x2048 _ h3
  have h5 := s 4 64 (by omega) rfl slices_S320x2048_o64_0_S16x2048 _ h4
  have h6 := s 5 80 (by omega) rfl slices_S320x2048_o80_0_S16x2048 _ h5
  have h7 := s 6 96 (by omega) rfl slices_S320x2048_o96_0_S16x2048 _ h6
  have h8 := s 7 112 (by omega) rfl slices_S320x2048_o112_0_S16x2048 _ h7
  have h9 := s 8 128 (by omega) rfl slices_S320x2048_o128_0_S16x2048 _ h8
  have h10 := s 9 144 (by omega) rfl slices_S320x2048_o144_0_S16x2048 _ h9
  have h11 := s 10 160 (by omega) rfl slices_S320x2048_o160_0_S16x2048 _ h10
  have h12 := s 11 176 (by omega) rfl slices_S320x2048_o176_0_S16x2048 _ h11
  have h13 := s 12 192 (by omega) rfl slices_S320x2048_o192_0_S16x2048 _ h12
  have h14 := s 13 208 (by omega) rfl slices_S320x2048_o208_0_S16x2048 _ h13
  have h15 := s 14 224 (by omega) rfl slices_S320x2048_o224_0_S16x2048 _ h14
  have h16 := s 15 240 (by omega) rfl slices_S320x2048_o240_0_S16x2048 _ h15
  have h17 := s 16 256 (by omega) rfl slices_S320x2048_o256_0_S16x2048 _ h16
  have h18 := s 17 272 (by omega) rfl slices_S320x2048_o272_0_S16x2048 _ h17
  have h19 := s 18 288 (by omega) rfl slices_S320x2048_o288_0_S16x2048 _ h18
  exact s 19 304 (by omega) rfl slices_S320x2048_o304_0_S16x2048 _ h19

end Chain

section Start

variable (x0 : FVec Ideal S2048x320 .f32) (q : Fin 2048)

/-- A small natural as a word, converted. -/
theorem sitofp_ofNat (a : ℕ) (ha : a < 2147483648) : FloatOps.sitofp (F := Ideal) .f32 (BitVec.ofNat 32 a) = ((a : ℝ) : EReal) := by
  have e : (BitVec.ofNat 32 a).toInt = (a : ℤ) := by
    have h1 : (BitVec.ofNat 32 a).toNat = a := by rw [BitVec.toNat_ofNat]; exact Nat.mod_eq_of_lt (by omega)
    rw [BitVec.toInt_eq_toNat_of_lt (by rw [h1]; omega), h1]
  show (((BitVec.ofNat 32 a).toInt : ℝ) : EReal) = _
  rw [e]
  rfl

/-- A condition as a word, converted. -/
theorem sitofp_ofBool (p : Prop) [Decidable p] :
    FloatOps.sitofp (F := Ideal) .f32 (BitVec.setWidth 32 (BitVec.ofBool (decide p))) = if p then 1 else 0 := by
  by_cases h : p
  · rw [if_pos h, decide_eq_true h]
    show ((((1 : ℤ)) : ℝ) : EReal) = 1
    simp
  · rw [if_neg h, decide_eq_false h]
    show ((((0 : ℤ)) : ℝ) : EReal) = 0
    simp

/-- An indicator of ids as the kernel computes it. -/
theorem ind (a i : ℕ) (ha : a < 2147483648) :
    FloatOps.sitofp (F := Ideal) .f32 (BitVec.setWidth 32 (BitVec.ofBool (decide (((i : ℝ) : EReal)
      = FloatOps.sitofp (F := Ideal) .f32 (BitVec.ofNat 32 a))))) = if a = i then 1 else 0 := by
  rw [sitofp_ofBool, sitofp_ofNat a ha]
  refine if_congr ⟨fun q => ?_, fun q => by rw [q]⟩ rfl rfl
  have := EReal.coe_injective q
  exact_mod_cast this.symm

/-- The indicator of the first table's ids. -/
theorem pay5_apply (i : ℕ) (hi : x0 (ix2 q 0) = ((i : ℝ) : EReal)) (a : Fin 16) :
    k0_pay5 (F := Ideal) x0 (ix2 a q) = if a.val = i then 1 else 0 := by
  pointwise [k0_pay5, k0_pay4, k0_pay3]
  rw [hi]
  exact ind a.val i (by omega)

/-- The indicator of the second table's ids. -/
theorem pay6_apply (i : ℕ) (hi : x0 (ix2 q 2) = ((i : ℝ) : EReal)) (a : Fin 16) :
    k0_pay6 (F := Ideal) x0 (ix2 a q) = if a.val = i then 1 else 0 := by
  pointwise [k0_pay6, k0_pay4, k0_pay3]
  rw [hi]
  exact ind a.val i (by omega)

/-- A sum of products with an indicator is the one term. -/
theorem sum_ind (f : Fin 16 → EReal) (i : Fin 16) : ∑ a : Fin 16, f a * (if a.val = i.val then 1 else 0) = f i := by
  rw [Finset.sum_eq_single i (fun a _ h => by rw [if_neg (fun e => h (Fin.ext e)), mul_zero]) (fun h => absurd (Finset.mem_univ _) h),
    if_pos rfl, mul_one]

/-- The states the steps start from. -/
theorem start_holds (c0 k0 : FVec Ideal S16x48 .f32) (i j : Fin 16) (hi : x0 (ix2 q 0) = ((i.val : ℝ) : EReal))
    (hj : x0 (ix2 q 2) = ((j.val : ℝ) : EReal)) :
    Holds (k0_pay7 (F := Ideal) x0 c0 k0) q (fun u => c0 (ix2 i u)) (fun u => k0 (ix2 j u)) := by
  refine ⟨fun u => ?_, fun u => ?_, ?_, fun v => ?_⟩
  · pointwise [k0_pay7]
    simp only [pay5_apply x0 q i.val hi]
    exact sum_ind (fun a => c0 (ix2 a u)) i
  · pointwise [k0_pay7]
    simp only [pay6_apply x0 q j.val hj]
    exact sum_ind (fun a => k0 (ix2 a u)) j
  · pointwise [k0_pay7]
  · pointwise [k0_pay7]
    rw [dif_neg (by omega), dif_neg (by omega), dif_neg (by omega)]

/-- The states after the block's twenty steps, from the two tables' rows at the ids of example `q`. -/
theorem finalH_holds (a2 a6 : FVec Ideal S16x144 .f32) (a3 a7 : FVec Ideal S48x144 .f32) (a4 a8 : FVec Ideal S2x144 .f32)
    (sc : Served (mat a3) (mat a4)) (sk : Served (mat a7) (mat a8)) (c0 k0 : FVec Ideal S16x48 .f32)
    (i j : Fin 16) (hi : x0 (ix2 q 0) = ((i.val : ℝ) : EReal)) (hj : x0 (ix2 q 2) = ((j.val : ℝ) : EReal))
    (fc : ∀ u, Fin' (c0 (ix2 i u))) (fk : ∀ u, Fin' (k0 (ix2 j u)))
    (X : ℕ → Fin 16 → EReal) (hX : ∀ (n : Fin 20) (k : Fin 16), x0 (ix2 q ⟨n.val * 16 + k.val, by omega⟩) = X n.val k) :
    Holds (finalH (F := Ideal) x0 (kmat a2 a6) (rmat a3 a7 a4 a8) (bih a4 a8) c0 k0) q
      (states (mat a2) (mat a3) (mat a4) X (fun u => c0 (ix2 i u)) 20)
      (states (mat a6) (mat a7) (mat a8) X (fun u => k0 (ix2 j u)) 20) := by
  have e8 : k0_pay8 (F := Ideal) (kmat a2 a6) = kmat a2 a6 := by
    funext y; idx_vars y; pointwise [k0_pay8]
  have e12 : k0_pay12 (F := Ideal) (bih a4 a8) = bih a4 a8 := by
    funext y; idx_vars y; pointwise [k0_pay12]
  unfold finalH
  rw [e8, e12]
  refine at_steps a2 a6 a3 a7 a4 a8 _ q X _ _ sc sk fc fk (fun n k => ?_) _ (start_holds x0 q c0 k0 i j hi hj)
  rw [← hX n k]
  pointwise [k0_pay3]

end Start

end Cert.KernelIdeal.Packed
-- ==== Proof.Written.lean ====
/- Rows written by several examples in turn, the later one winning; and the same value computed a block of examples
   at a time, from the number of the last example of the block that writes the row. -/
module

public import proofs.«01_k».proof.Proof.Cell

@[expose] public section

noncomputable section

namespace Cert.Cell

variable {β : Type}

/-- What a place holds after the examples 0 to `n - 1`: example `k` writes `val k` there if `p k`; it starts as `y`. -/
def written (p : ℕ → Prop) [DecidablePred p] (val : ℕ → β) (y : β) : ℕ → β
  | 0 => y
  | n + 1 => if p n then val n else written p val y n

theorem written_congr {p p' : ℕ → Prop} [DecidablePred p] [DecidablePred p'] {val val' : ℕ → β} (y : β) (n : ℕ)
    (hp : ∀ k < n, p k ↔ p' k) (hv : ∀ k < n, val k = val' k) : written p val y n = written p' val' y n := by
  induction n with
  | zero => rfl
  | succ n ih =>
    rw [written, written, ih (fun k hk => hp k (by omega)) (fun k hk => hv k (by omega)), hv n (by omega)]
    exact if_congr (hp n (by omega)) rfl rfl

theorem written_none (p : ℕ → Prop) [DecidablePred p] (val : ℕ → β) (y : β) (b n : ℕ) (h : ∀ k < n, ¬ p (b + k)) :
    written p val y (b + n) = written p val y b := by
  induction n with
  | zero => rfl
  | succ n ih =>
    rw [← Nat.add_assoc, written, if_neg (h n (by omega)), ih (fun k hk => h k (by omega))]

theorem written_last (p : ℕ → Prop) [DecidablePred p] (val : ℕ → β) (y : β) (b n k : ℕ) (hk : k < n) (hp : p (b + k))
    (h : ∀ j, k < j → j < n → ¬ p (b + j)) : written p val y (b + n) = val (b + k) := by
  induction n with
  | zero => omega
  | succ n ih =>
    rw [← Nat.add_assoc, written]
    rcases Nat.lt_succ_iff_lt_or_eq.mp hk with h1 | rfl
    · rw [if_neg (h n h1 (by omega)), ih h1 (fun j a c => h j a (by omega))]
    · rw [if_pos hp]

/-- The number, counted from one, of an example as an extended real. -/
def nr (k : ℕ) : EReal := (k : ℝ) + 1

theorem nr_le {j k : ℕ} : nr j ≤ nr k ↔ j ≤ k := by
  unfold nr
  rw [← EReal.coe_one, ← EReal.coe_add, ← EReal.coe_add, EReal.coe_le_coe_iff, add_le_add_iff_right, Nat.cast_le]

theorem nr_inj {j k : ℕ} (h : nr j = nr k) : j = k :=
  le_antisymm (nr_le.mp h.le) (nr_le.mp h.ge)

theorem nr_pos (k : ℕ) : 0 < nr k := by
  unfold nr
  rw [← EReal.coe_one, ← EReal.coe_add, ← EReal.coe_zero, EReal.coe_lt_coe_iff]
  positivity

/-- The number of the last example of a block that writes a row, zero when none does. -/
def lastOf {n : ℕ} (p : Fin n → Prop) [DecidablePred p] : EReal :=
  Finset.univ.fold max ⊥ (fun q => (if p q then (1 : EReal) else 0) * nr q.val)

theorem lastOf_none {n : ℕ} (p : Fin n → Prop) [DecidablePred p] (h : ∀ q, ¬ p q) : ¬ 0 < lastOf p := by
  rw [not_lt, lastOf, Finset.fold_max_le]
  exact ⟨bot_le, fun q _ => by rw [if_neg (h q), zero_mul]⟩

theorem lastOf_some {n : ℕ} (p : Fin n → Prop) [DecidablePred p] (k : Fin n) (hp : p k) (h : ∀ j, k < j → ¬ p j) :
    lastOf p = nr k.val := by
  refine le_antisymm ?_ ?_
  · rw [lastOf, Finset.fold_max_le]
    refine ⟨bot_le, fun q _ => ?_⟩
    by_cases hq : p q
    · rw [if_pos hq, one_mul, nr_le]
      by_contra hc
      exact h q (by rw [Fin.lt_def]; omega) hq
    · rw [if_neg hq, zero_mul]; exact (nr_pos _).le
  · rw [lastOf, Finset.le_fold_max]
    exact Or.inr ⟨k, Finset.mem_univ _, by rw [if_pos hp, one_mul]⟩

/-- A block's row: the state of the last example of the block that writes it, or what it held before. -/
theorem block_written {n : ℕ} (p : ℕ → Prop) [DecidablePred p] (val : ℕ → EReal) (y : EReal) (b : ℕ)
    (P : Fin n → Prop) [DecidablePred P] (v : Fin n → EReal) (hP : ∀ q, P q ↔ p (b + q.val)) (hv : ∀ q, v q = val (b + q.val)) :
    (if 0 < lastOf P then ∑ q, ((if P q then (1 : EReal) else 0) * (if nr q.val = lastOf P then 1 else 0)) * v q
      else written p val y b) = written p val y (b + n) := by
  by_cases hex : ∃ q, P q
  · obtain ⟨k, hk, hmax⟩ : ∃ k, P k ∧ ∀ j, k < j → ¬ P j := by
      have hne : (Finset.univ.filter P).Nonempty := by
        obtain ⟨q, hq⟩ := hex
        exact ⟨q, Finset.mem_filter.mpr ⟨Finset.mem_univ _, hq⟩⟩
      refine ⟨(Finset.univ.filter P).max' hne, (Finset.mem_filter.mp (Finset.max'_mem _ hne)).2, fun j hj hPj => ?_⟩
      exact absurd (Finset.le_max' _ j (Finset.mem_filter.mpr ⟨Finset.mem_univ _, hPj⟩)) (not_le.mpr hj)
    rw [lastOf_some P k hk hmax, if_pos (nr_pos _),
      written_last p val y b n k.val k.isLt ((hP k).mp hk) (fun j h1 h2 hj => hmax ⟨j, h2⟩ h1 ((hP ⟨j, h2⟩).mpr hj)),
      Finset.sum_eq_single k, if_pos hk, if_pos rfl, one_mul, one_mul, hv]
    · intro q _ hq
      rw [if_neg (fun e => hq (Fin.ext (nr_inj e))), mul_zero, zero_mul]
    · exact fun h => absurd (Finset.mem_univ _) h
  · have hno : ∀ q, ¬ P q := fun q hq => hex ⟨q, hq⟩
    rw [if_neg (lastOf_none P hno), written_none p val y b n (fun k hk h => hno ⟨k, hk⟩ ((hP ⟨k, hk⟩).mpr h))]

end Cert.Cell

end
-- ==== Proof.TableBlock.lean ====
/- The rows of the two tables a block of examples leaves, at an index. -/
module

public import proofs.«01_k».proof.Proof.BlockChain
public import proofs.«01_k».proof.Proof.Written

@[expose] public section

set_option maxRecDepth 16384

noncomputable section

namespace Cert.KernelIdeal.Packed

open Idealize.ShloMosaic
open Cert.KernelIdeal.Gen Cert.KernelIdeal.Block Cert.Cell

variable (x0 : FVec Ideal S2048x320 .f32) (h : FVec Ideal S104x2048 .f32)

/-- The numbers of the examples, counted from one. -/
theorem pay63_apply (q : Fin 2048) : k0_pay63 (F := Ideal) (ix2 0 q) = nr q.val := by
  pointwise [k0_pay63]
  rw [sitofp_ofNat q.val (by omega)]
  rfl

/-- The word of minus infinity. -/
theorem ofBits_bot : Ideal.ofBits .f32 0xFF800000#32 = ⊥ := by
  simp [Ideal.ofBits, Ideal.ieee]

section Card

variable (i : Fin 2048 → ℕ) (hi : ∀ q, x0 (ix2 q 0) = ((i q : ℝ) : EReal))
include hi

/-- The last example that writes row `r` of the first table. -/
theorem last_card (r : Fin 15) :
    k0_pay64 (F := Ideal) (k0_pay5 x0) (k0_pay6 x0) (ix2 ⟨r.val, by omega⟩ 0) = lastOf (fun q => r.val = i q) := by
  pointwise [k0_pay64, k0_pay62]
  rw [ofBits_bot, lastOf]
  congr 1
  funext q
  rw [dif_pos (by omega), pay5_apply x0 q (i q) (hi q), pay63_apply]

/-- Row `r` of the first table after the block. -/
theorem cardRows_apply (hc hk : Fin 2048 → Fin 48 → EReal) (H : ∀ q, Holds h q (hc q) (hk q)) (r : Fin 15) (u : Fin 48)
    (p : FVec Ideal S15x48 .f32) :
    cardRows (F := Ideal) x0 h p (ix2 r u)
      = if 0 < lastOf (fun q => r.val = i q) then
          ∑ q, ((if r.val = i q then (1 : EReal) else 0) * (if nr q.val = lastOf (fun q => r.val = i q) then 1 else 0)) * hc q u
        else p (ix2 r u) := by
  unfold cardRows
  pointwise [k0_pay66]
  rw [last_card x0 i hi r]
  refine if_congr Iff.rfl ?_ rfl
  pointwise [k0_pay65, k0_pay62]
  refine Finset.sum_congr rfl fun q _ => ?_
  rw [dif_pos (by omega), pay5_apply x0 q (i q) (hi q), pay63_apply, last_card x0 i hi r, sitofp_ofBool, (H q).card u]

end Card

section Cat

variable (i : Fin 2048 → ℕ) (hi : ∀ q, x0 (ix2 q 2) = ((i q : ℝ) : EReal))
include hi

/-- The last example that writes row `r` of the second table. -/
theorem last_cat (r : Fin 15) :
    k0_pay64 (F := Ideal) (k0_pay5 x0) (k0_pay6 x0) (ix2 ⟨16 + r.val, by omega⟩ 0) = lastOf (fun q => r.val = i q) := by
  pointwise [k0_pay64, k0_pay62]
  rw [ofBits_bot, lastOf]
  congr 1
  funext q
  rw [pay6_apply x0 q (i q) (hi q), pay63_apply]

/-- Row `r` of the second table after the block. -/
theorem catRows_apply (hc hk : Fin 2048 → Fin 48 → EReal) (H : ∀ q, Holds h q (hc q) (hk q)) (r : Fin 15) (u : Fin 48)
    (p : FVec Ideal S15x48 .f32) :
    catRows (F := Ideal) x0 h p (ix2 r u)
      = if 0 < lastOf (fun q => r.val = i q) then
          ∑ q, ((if r.val = i q then (1 : EReal) else 0) * (if nr q.val = lastOf (fun q => r.val = i q) then 1 else 0)) * hk q u
        else p (ix2 r u) := by
  unfold catRows
  pointwise [k0_pay1, k0_pay67, k0_pay68]
  rw [last_cat x0 i hi r]
  refine if_congr Iff.rfl ?_ rfl
  pointwise [k0_pay65, k0_pay62]
  refine Finset.sum_congr rfl fun q _ => ?_
  rw [pay6_apply x0 q (i q) (hi q), pay63_apply, last_cat x0 i hi r, sitofp_ofBool, (H q).cat u]

end Cat

end Cert.KernelIdeal.Packed
-- ==== Proof.Data.lean ====
/- What both programs compute, in plain terms: the final states of every example from its ids' rows of the two tables,
   and the conditions the inputs meet. -/
module

public import proofs.«01_k».proof.Proof.BlockStep
public import proofs.«01_k».proof.Proof.Written

@[expose] public section

noncomputable section

namespace Cert.Cell

open Idealize.ShloMosaic Cert.KernelIdeal.Packed

/-- The inputs of example `n` at step `j`. -/
def inputs (x : Fin 16384 → Fin 20 → Fin 16 → EReal) (n j : ℕ) (k : Fin 16) : EReal :=
  if h : n < 16384 ∧ j < 20 then x ⟨n, h.1⟩ ⟨j, h.2⟩ k else 0

theorem inputs_eq (x : Fin 16384 → Fin 20 → Fin 16 → EReal) (n : Fin 16384) (j : Fin 20) (k : Fin 16) :
    inputs x n.val j.val k = x n j k := by
  rw [inputs, dif_pos ⟨n.isLt, j.isLt⟩]

/-- The final states of example `n`, which starts from row `ids n` of the table `T`. -/
def finals (K : Fin 16 → Fin 144 → EReal) (R : Fin 48 → Fin 144 → EReal) (B : Fin 2 → Fin 144 → EReal)
    (x : Fin 16384 → Fin 20 → Fin 16 → EReal) (T : ℕ → Fin 48 → EReal) (ids : ℕ → ℕ) (n : ℕ) : Fin 48 → EReal :=
  states K R B (inputs x n) (T (ids n)) 20

/-- The rows of a table. -/
def rowsOf {N : ℕ} (a : Fin N → Fin 48 → EReal) (r : ℕ) (u : Fin 48) : EReal := if h : r < N then a ⟨r, h⟩ u else 0

theorem rowsOf_eq {N : ℕ} (a : Fin N → Fin 48 → EReal) (r : Fin N) (u : Fin 48) : rowsOf a r.val u = a r u := by
  rw [rowsOf, dif_pos r.isLt]

/-- The inputs' conditions: the two id columns are natural numbers below fifteen, and the rows they select, and the
    candidates' recurrent weights and biases, are finite. -/
structure Good (x : Fin 16384 → Fin 20 → Fin 16 → EReal) (T1 : Fin 1000 → Fin 48 → EReal) (T2 : Fin 15 → Fin 48 → EReal)
    (R1 R2 : Fin 48 → Fin 144 → EReal) (B1 B2 : Fin 2 → Fin 144 → EReal) (cid kid : ℕ → ℕ) : Prop where
  cid_lt : ∀ n, cid n < 15
  kid_lt : ∀ n, kid n < 15
  card : ∀ n : Fin 16384, x n 0 0 = ((cid n.val : ℝ) : EReal)
  cat : ∀ n : Fin 16384, x n 0 2 = ((kid n.val : ℝ) : EReal)
  tcard : ∀ (r : Fin 15) (u : Fin 48), Fin' (T1 ⟨r.val, by omega⟩ u)
  tcat : ∀ (r : Fin 15) (u : Fin 48), Fin' (T2 r u)
  sc : Served R1 B1
  sk : Served R2 B2

/-- The score of an example from its two final states. -/
def score (wo : Fin 96 → EReal) (ob : EReal) (hc hk : Fin 48 → EReal) : EReal :=
  Ideal.logistic ((∑ u : Fin 48, hc u * wo ⟨u.val, by omega⟩ + ∑ u : Fin 48, hk u * wo ⟨48 + u.val, by omega⟩) + ob)

/-- A sum over the ninety-six weights, by its two halves. -/
theorem sum96 (f : Fin 96 → EReal) :
    ∑ l, f l = (∑ u : Fin 48, f ⟨u.val, by omega⟩) + ∑ u : Fin 48, f ⟨48 + u.val, by omega⟩ := by
  rw [Fin.sum_univ_add (a := 48) (b := 48) f]
  rfl

end Cert.Cell

end
-- ==== Proof.Tables.lean ====
/- What the blocks of the kernel leave at each point: the final states of their examples, and the two tables with the
   rows of all examples so far. -/
module

public import proofs.«01_k».proof.Proof.HostBlocks
public import proofs.«01_k».proof.Proof.TableBlock
public import proofs.«01_k».proof.Proof.Data

@[expose] public section

set_option maxRecDepth 16384

noncomputable section

namespace Cert.KernelIdeal.Body

open Idealize.ShloMosaic Idealize.ShloMosaic.TcCoe Idealize.ShloMosaic.Tactic
open Cert.KernelIdeal.Gen Cert.KernelIdeal.Block Cert.KernelIdeal.Packed Cert.Cell

/-- The first table after a block, at an index. -/
theorem cardTable_apply (x0 : FVec Ideal S2048x320 .f32) (h : FVec Ideal S104x2048 .f32) (y : FVec Ideal S1000x48 .f32)
    (r : Fin 1000) (u : Fin 48) :
    cardTable (F := Ideal) x0 h y (ix2 r u) = if hr : r.val < 15 then
      cardRows (F := Ideal) x0 h (VecWindow.window y ![0, 0] S15x48.size inb_S1000x48_S15x48_0_0) (ix2 ⟨r.val, hr⟩ u) else y (ix2 r u) := by
  unfold cardTable VecWindow.put
  by_cases hr : r.val < 15
  · rw [dif_pos hr, dif_pos]
    · congr 1
      funext a
      match a with
      | ⟨0, _⟩ => rfl
      | ⟨1, _⟩ => rfl
    · intro a
      match a with
      | ⟨0, _⟩ => exact ⟨Nat.zero_le _, by show r.val < 0 + 15; omega⟩
      | ⟨1, _⟩ => exact ⟨Nat.zero_le _, by show u.val < 0 + 48; omega⟩
  · rw [dif_neg hr, dif_neg]
    intro q
    have : r.val < 0 + 15 := (q 0).2
    omega

/-- The second table after a block, at an index of its first fifteen rows. -/
theorem catTable_apply (x0 : FVec Ideal S2048x320 .f32) (h : FVec Ideal S104x2048 .f32) (y : FVec Ideal S16x48 .f32)
    (r : Fin 15) (u : Fin 48) :
    catTable (F := Ideal) x0 h y (ix2 ⟨r.val, by omega⟩ u)
      = catRows (F := Ideal) x0 h (VecWindow.window y ![0, 0] S15x48.size inb_S16x48_S15x48_0_0) (ix2 r u) := by
  unfold catTable VecWindow.put
  rw [dif_pos]
  · congr 1
    funext a
    match a with
    | ⟨0, _⟩ => rfl
    | ⟨1, _⟩ => rfl
  · intro a
    match a with
    | ⟨0, _⟩ => exact ⟨Nat.zero_le _, by show r.val < 0 + 15; omega⟩
    | ⟨1, _⟩ => exact ⟨Nat.zero_le _, by show u.val < 0 + 48; omega⟩

/-- The rows read of a table, at an index. -/
theorem rows_apply (y : FVec Ideal S1000x48 .f32) (r : Fin 15) (u : Fin 48) :
    VecWindow.window y ![0, 0] S15x48.size inb_S1000x48_S15x48_0_0 (ix2 r u) = y (ix2 ⟨r.val, by omega⟩ u) := by
  unfold VecWindow.window
  congr 1
  funext a
  match a with
  | ⟨0, _⟩ => exact Fin.ext (by show 0 + 1 * r.val = r.val; omega)
  | ⟨1, _⟩ => exact Fin.ext (by show 0 + 1 * u.val = u.val; omega)

theorem rows16_apply (y : FVec Ideal S1000x48 .f32) (r : Fin 16) (u : Fin 48) :
    VecWindow.window y ![0, 0] S16x48.size inb_S1000x48_S16x48_0_0 (ix2 r u) = y (ix2 ⟨r.val, by omega⟩ u) := by
  unfold VecWindow.window
  congr 1
  funext a
  match a with
  | ⟨0, _⟩ => exact Fin.ext (by show 0 + 1 * r.val = r.val; omega)
  | ⟨1, _⟩ => exact Fin.ext (by show 0 + 1 * u.val = u.val; omega)

theorem rowsCat_apply (y : FVec Ideal S16x48 .f32) (r : Fin 15) (u : Fin 48) :
    VecWindow.window y ![0, 0] S15x48.size inb_S16x48_S15x48_0_0 (ix2 r u) = y (ix2 ⟨r.val, by omega⟩ u) := by
  unfold VecWindow.window
  congr 1
  funext a
  match a with
  | ⟨0, _⟩ => exact Fin.ext (by show 0 + 1 * r.val = r.val; omega)
  | ⟨1, _⟩ => exact Fin.ext (by show 0 + 1 * u.val = u.val; omega)

variable (m : (ℓ : Loc nD τ sig) → Buf (Elt Ideal) ℓ) (c : Dev nD)

/-! The arguments as plain functions. -/

def a0 : FVec Ideal S16384x20x16 .f32 := m ((c : Thread nD τ).loc main_arg0)
def a1 : FVec Ideal S1000x48 .f32 := m ((c : Thread nD τ).loc main_arg1)
def a2 : FVec Ideal S16x144 .f32 := m ((c : Thread nD τ).loc main_arg2)
def a3 : FVec Ideal S48x144 .f32 := m ((c : Thread nD τ).loc main_arg3)
def a4 : FVec Ideal S2x144 .f32 := m ((c : Thread nD τ).loc main_arg4)
def a5 : FVec Ideal S15x48 .f32 := m ((c : Thread nD τ).loc main_arg5)
def a6 : FVec Ideal S16x144 .f32 := m ((c : Thread nD τ).loc main_arg6)
def a7 : FVec Ideal S48x144 .f32 := m ((c : Thread nD τ).loc main_arg7)
def a8 : FVec Ideal S2x144 .f32 := m ((c : Thread nD τ).loc main_arg8)
def a9 : FVec Ideal S96x1 .f32 := m ((c : Thread nD τ).loc main_arg9)
def a10 : FVec Ideal S1 .f32 := m ((c : Thread nD τ).loc main_arg10)

/-- The inputs. -/
def xs (n : Fin 16384) (j : Fin 20) (k : Fin 16) : EReal := a0 m c (ix3 n j k)

/-- The final states of the first recurrence. -/
def fc (cid : ℕ → ℕ) : ℕ → Fin 48 → EReal :=
  finals (mat (a2 m c)) (mat (a3 m c)) (mat (a4 m c)) (xs m c) (rowsOf (mat (a1 m c))) cid

/-- The final states of the second recurrence. -/
def fk (kid : ℕ → ℕ) : ℕ → Fin 48 → EReal :=
  finals (mat (a6 m c)) (mat (a7 m c)) (mat (a8 m c)) (xs m c) (rowsOf (mat (a5 m c))) kid

variable (cid kid : ℕ → ℕ)
  (G : Good (xs m c) (mat (a1 m c)) (mat (a5 m c)) (mat (a3 m c)) (mat (a7 m c)) (mat (a4 m c)) (mat (a8 m c)) cid kid)

theorem lt8 (t : Fin cfg0.N) : t.val < 8 := lt_of_lt_of_eq t.isLt (show cfg0.N = 8 from N_0)

/-- Example `q` of the block at point `t`. -/
def ex (t : Fin cfg0.N) (q : Fin 2048) : Fin 16384 := ⟨t.val * 2048 + q.val, by have := lt8 t; omega⟩

include G

theorem id_card (t : Fin cfg0.N) (q : Fin 2048) : (iblk m c 0 t : FVec Ideal S2048x320 .f32) (ix2 q 0) = ((cid (t.val * 2048 + q.val) : ℝ) : EReal) := by
  exact (x_apply m c t q 0 0 (ex t q) rfl).trans (G.card (ex t q))

theorem id_cat (t : Fin cfg0.N) (q : Fin 2048) : (iblk m c 0 t : FVec Ideal S2048x320 .f32) (ix2 q 2) = ((kid (t.val * 2048 + q.val) : ℝ) : EReal) := by
  exact (x_apply m c t q 0 2 (ex t q) rfl).trans (G.cat (ex t q))

/-- The final states of the block at point `t`. -/
theorem hAt_holds (t : Fin cfg0.N) (q : Fin 2048) :
    Holds (hAt m c t) q (fc m c cid (t.val * 2048 + q.val)) (fk m c kid (t.val * 2048 + q.val)) := by
  have hc := G.cid_lt (t.val * 2048 + q.val)
  have hk := G.kid_lt (t.val * 2048 + q.val)
  have ec : ∀ u, VecWindow.window (iblk m c 6 t : FVec Ideal S1000x48 .f32) ![0, 0] S16x48.size inb_S1000x48_S16x48_0_0
      (ix2 (⟨cid (t.val * 2048 + q.val), by omega⟩ : Fin 16) u) = rowsOf (mat (a1 m c)) (cid (t.val * 2048 + q.val)) u := by
    intro u
    rw [rows16_apply, blk_6, V_main_arg1, rowsOf, dif_pos (by omega)]
    rfl
  have ek : ∀ u, (iblk m c 7 t : FVec Ideal S16x48 .f32)
      (ix2 (⟨kid (t.val * 2048 + q.val), by omega⟩ : Fin 16) u) = rowsOf (mat (a5 m c)) (kid (t.val * 2048 + q.val)) u := by
    intro u
    rw [blk_7, V_cat, rowsOf, dif_pos (by omega)]
    exact padded_apply (a5 m c) ⟨kid (t.val * 2048 + q.val), hk⟩ u
  have key := finalH_holds (iblk m c 0 t : FVec Ideal S2048x320 .f32) q (a2 m c) (a6 m c) (a3 m c) (a7 m c) (a4 m c) (a8 m c) G.sc G.sk
    (VecWindow.window (iblk m c 6 t : FVec Ideal S1000x48 .f32) ![0, 0] S16x48.size inb_S1000x48_S16x48_0_0) (iblk m c 7 t)
    ⟨cid (t.val * 2048 + q.val), by omega⟩ ⟨kid (t.val * 2048 + q.val), by omega⟩ (id_card m c cid kid G t q) (id_cat m c cid kid G t q)
    (fun u => by rw [ec, rowsOf, dif_pos (by omega)]; exact G.tcard ⟨_, hc⟩ u)
    (fun u => by rw [ek, rowsOf, dif_pos hk]; exact G.tcat ⟨_, hk⟩ u)
    (inputs (xs m c) (t.val * 2048 + q.val))
    (fun n k => (x_apply m c t q n k (ex t q) rfl).trans (inputs_eq (xs m c) (ex t q) n k).symm)
  rw [funext ec, funext ek] at key
  unfold hAt blockH
  rw [blk_1, blk_2, blk_3, V_k, V_r, V_b]
  exact key

/-- The first table after one more block. -/
theorem card_step (t : Fin cfg0.N) (y : FVec Ideal S1000x48 .f32)
    (hy : ∀ r u, y (ix2 r u) = written (fun k => cid k = r.val) (fun k => fc m c cid k u) (a1 m c (ix2 r u)) (t.val * 2048))
    (r : Fin 1000) (u : Fin 48) :
    cardTable (F := Ideal) (iblk m c 0 t) (hAt m c t) y (ix2 r u)
      = written (fun k => cid k = r.val) (fun k => fc m c cid k u) (a1 m c (ix2 r u)) (t.val * 2048 + 2048) := by
  rw [cardTable_apply]
  by_cases hr : r.val < 15
  · rw [dif_pos hr, cardRows_apply _ _ (fun q => cid (t.val * 2048 + q.val)) (id_card m c cid kid G t) _ _ (hAt_holds m c cid kid G t),
      rows_apply, hy]
    exact block_written _ _ _ _ _ _ (fun q => eq_comm) (fun q => rfl)
  · have none : ∀ k, cid k ≠ r.val := fun k e => by have := G.cid_lt k; omega
    rw [dif_neg hr, hy, written_none _ _ _ _ _ (fun k _ => none _)]

/-- The second table after one more block. -/
theorem cat_step (t : Fin cfg0.N) (y : FVec Ideal S16x48 .f32)
    (hy : ∀ (r : Fin 15) u, y (ix2 ⟨r.val, by omega⟩ u)
      = written (fun k => kid k = r.val) (fun k => fk m c kid k u) (a5 m c (ix2 r u)) (t.val * 2048))
    (r : Fin 15) (u : Fin 48) :
    catTable (F := Ideal) (iblk m c 0 t) (hAt m c t) y (ix2 ⟨r.val, by omega⟩ u)
      = written (fun k => kid k = r.val) (fun k => fk m c kid k u) (a5 m c (ix2 r u)) (t.val * 2048 + 2048) := by
  rw [catTable_apply, catRows_apply _ _ (fun q => kid (t.val * 2048 + q.val)) (id_cat m c cid kid G t) _ _ (hAt_holds m c cid kid G t),
    rowsCat_apply, hy]
  exact block_written _ _ _ _ _ _ (fun q => eq_comm) (fun q => rfl)

/-- The first table after the blocks up to point `n`. -/
theorem cardAt_apply (n : ℕ) (hn : n < cfg0.N) (r : Fin 1000) (u : Fin 48) :
    cardAt m c n hn (ix2 r u)
      = written (fun k => cid k = r.val) (fun k => fc m c cid k u) (a1 m c (ix2 r u)) (n * 2048 + 2048) := by
  induction n generalizing r u with
  | zero =>
    exact card_step m c cid kid G ⟨0, hn⟩ (iblk m c 6 ⟨0, hn⟩) (fun r u => by rw [blk_6, V_main_arg1]; rfl) r u
  | succ n ih =>
    exact card_step m c cid kid G ⟨n + 1, hn⟩ (cardAt m c n (by omega))
      (fun r u => (ih (by omega) r u).trans (congrArg _ (by dsimp only; ring))) r u

/-- The second table after the blocks up to point `n`. -/
theorem catAt_apply (n : ℕ) (hn : n < cfg0.N) (r : Fin 15) (u : Fin 48) :
    catAt m c n hn (ix2 ⟨r.val, by omega⟩ u)
      = written (fun k => kid k = r.val) (fun k => fk m c kid k u) (a5 m c (ix2 r u)) (n * 2048 + 2048) := by
  induction n generalizing r u with
  | zero =>
    exact cat_step m c cid kid G ⟨0, hn⟩ (iblk m c 7 ⟨0, hn⟩)
      (fun r u => by rw [blk_7, V_cat]; exact padded_apply (a5 m c) r u) r u
  | succ n ih =>
    exact cat_step m c cid kid G ⟨n + 1, hn⟩ (catAt m c n (by omega))
      (fun r u => (ih (by omega) r u).trans (congrArg _ (by dsimp only; ring))) r u

end Cert.KernelIdeal.Body
-- ==== Proof.Score.lean ====
/- The row of scores a block of the kernel writes. -/
module

public import proofs.«01_k».proof.Proof.Tables

@[expose] public section

set_option maxRecDepth 16384

noncomputable section

namespace Cert.KernelIdeal.Body

open Idealize.ShloMosaic Idealize.ShloMosaic.TcCoe Idealize.ShloMosaic.Tactic
open Cert.KernelIdeal.Gen Cert.KernelIdeal.Block Cert.KernelIdeal.Packed Cert.Cell

theorem outRow_apply (h : FVec Ideal S104x2048 .f32) (x4 : FVec Ideal S96x1 .f32) (x5 : FVec Ideal S1x1 .f32) (q : Fin 2048)
    (hc hk : Fin 48 → EReal) (H : Holds h q hc hk) :
    outRow (F := Ideal) h x4 x5 (ix2 0 q) = score (fun l => x4 (ix2 l 0)) (x5 (ix2 0 0)) hc hk := by
  unfold outRow score
  pointwise [k0_pay61, k0_pay60]
  rw [sum96]
  congr 2
  refine congrArg₂ (· + ·) (Finset.sum_congr rfl fun u _ => ?_) (Finset.sum_congr rfl fun u _ => ?_)
  · rw [← H.card u, mul_comm]
  · rw [← H.cat u, mul_comm]

variable (m : (ℓ : Loc nD τ sig) → Buf (Elt Ideal) ℓ) (c : Dev nD) (cid kid : ℕ → ℕ)
  (G : Good (xs m c) (mat (a1 m c)) (mat (a5 m c)) (mat (a3 m c)) (mat (a7 m c)) (mat (a4 m c)) (mat (a8 m c)) cid kid)

/-- The scores of all examples. -/
def scores (n : ℕ) : EReal := score (fun l => a9 m c (ix2 l 0)) (a10 m c (ix1 0)) (fc m c cid n) (fk m c kid n)

include G in
theorem outAt_apply (t : Fin cfg0.N) (q : Fin 2048) :
    outAt m c t (ix2 0 q) = scores m c cid kid (t.val * 2048 + q.val) := by
  unfold outAt scores
  rw [outRow_apply _ _ _ _ _ _ (hAt_holds m c cid kid G t q), blk_4, blk_5, V_main_arg9, V_ob]
  congr 1
  pointwise
  rfl

end Cert.KernelIdeal.Body
-- ==== Proof.KernelOut.lean ====
/- What the kernel's result arrays hold after the run. -/
module

public import proofs.«01_k».proof.Proof.Score
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic Idealize.SL
open Idealize.ShloMosaic.Pipeline (Dat)
open Cert.KernelIdeal.Gen Cert.KernelIdeal.Block Cert.KernelIdeal.Packed Cert.Cell

variable (m : (ℓ : Loc nD τ sig) → Buf (Elt Ideal) ℓ) (c : Dev nD) (cid kid : ℕ → ℕ)
  (G : Good (xs m c) (mat (a1 m c)) (mat (a5 m c)) (mat (a3 m c)) (mat (a7 m c)) (mat (a4 m c)) (mat (a8 m c)) cid kid)

include G in
/-- The array of scores. -/
theorem arr_scores : (dats m 0 c).arrAt 8 cfg0.N = (fun i => scores m c cid kid (i 1).val : FVec Ideal S1x16384 .f32) := by
  refine (dats m 0 c).arrAt_eq_of_covers 8 _ (by decide +kernel) fun t hf y => ?_
  have e := (by decide +kernel : ∀ t : Fin grid0.N, win0_8.index t = ![0, t.val]) t
  blk_simp [e]
  rw [after_8]
  have h0 : (y 0).val < 1 := (y 0).isLt
  have h1 : (y 1).val < 2048 := (y 1).isLt
  refine Eq.trans (congrArg (outAt m c t) ?_) (outAt_apply m c cid kid G t ⟨(y 1).val, h1⟩)
  funext a
  match a with
  | ⟨0, _⟩ => exact Fin.ext (by show (y 0).val = 0; omega)
  | ⟨1, _⟩ => rfl

/-- The array of the first table. -/
theorem arr_card : (dats m 0 c).arrAt 9 cfg0.N = (cardAt m c 7 (by rw [show cfg0.N = 8 from N_0]; norm_num) : FVec Ideal S1000x48 .f32) := by
  refine (dats m 0 c).arrAt_eq_of_after_last 9 t0_7 (by decide +kernel) _ fun j => ?_
  blk_simp
  rw [after_9]
  rfl

theorem arr_cat : (dats m 0 c).arrAt 10 cfg0.N = (catAt m c 7 (by rw [show cfg0.N = 8 from N_0]; norm_num) : FVec Ideal S16x48 .f32) := by
  refine (dats m 0 c).arrAt_eq_of_after_last 10 t0_7 (by decide +kernel) _ fun j => ?_
  blk_simp
  rw [after_10]
  rfl

theorem arr_inj : Function.Injective (Pipeline.arrRef spec0) := by decide

theorem tail_scores : Pipeline.afterTail₀ cfgs (dats m) 0 (V0 m) [hostOps1] c main_v67
    = (shapeCast S16384x1 ((dats m 0 c).arrAt 8 cfg0.N : FVec Ideal S1x16384 .f32) shapeCasts_S1x16384_S16384x1 : FVec Ideal S16384x1 .f32) := by
  unfold Pipeline.afterTail₀
  after_reads_simp
  exact congrArg (fun v : FVec Ideal S1x16384 .f32 => (shapeCast S16384x1 v shapeCasts_S1x16384_S16384x1 : FVec Ideal S16384x1 .f32))
    (Pipeline.withArrays_arr spec0 arr_inj c (V0 m c) (fun w => (dats m 0 c).arrAt w cfg0.N) 8)

theorem tail_cat : Pipeline.afterTail₀ cfgs (dats m) 0 (V0 m) [hostOps1] c main_v68
    = (extractStridedSlice S15x48 ![0, 0] ((dats m 0 c).arrAt 10 cfg0.N : FVec Ideal S16x48 .f32) slices_S16x48_S15x48_0_0 : FVec Ideal S15x48 .f32) := by
  unfold Pipeline.afterTail₀
  after_reads_simp
  exact congrArg (fun v : FVec Ideal S16x48 .f32 => (extractStridedSlice S15x48 ![0, 0] v slices_S16x48_S15x48_0_0 : FVec Ideal S15x48 .f32))
    (Pipeline.withArrays_arr spec0 arr_inj c (V0 m c) (fun w => (dats m 0 c).arrAt w cfg0.N) 10)

/-- A row of scores read as a column. -/
theorem column_apply (v : FVec Ideal S1x16384 .f32) (n : Fin 16384) :
    (shapeCast S16384x1 v shapeCasts_S1x16384_S16384x1 : FVec Ideal S16384x1 .f32) (ix2 n 0) = v (ix2 0 n) := by
  pointwise

/-- The first rows of a table. -/
theorem top_apply (v : FVec Ideal S16x48 .f32) (r : Fin 15) (u : Fin 48) :
    (extractStridedSlice S15x48 ![0, 0] v slices_S16x48_S15x48_0_0 : FVec Ideal S15x48 .f32) (ix2 r u) = v (ix2 ⟨r.val, by omega⟩ u) := by
  pointwise

include G in
/-- The kernel's first result. -/
theorem out_scores (n : Fin 16384) :
    (Pipeline.afterTail₀ cfgs (dats m) 0 (V0 m) [hostOps1] c main_v67 : FVec Ideal S16384x1 .f32) (ix2 n 0) = scores m c cid kid n.val := by
  rw [tail_scores, arr_scores m c cid kid G]
  exact column_apply _ n

include G in
/-- The kernel's second result. -/
theorem out_card (r : Fin 1000) (u : Fin 48) :
    ((dats m 0 c).arrAt 9 cfg0.N : FVec Ideal S1000x48 .f32) (ix2 r u)
      = written (fun k => cid k = r.val) (fun k => fc m c cid k u) (a1 m c (ix2 r u)) 16384 := by
  rw [arr_card]
  exact cardAt_apply m c cid kid G 7 _ r u

include G in
/-- The kernel's third result. -/
theorem out_cat (r : Fin 15) (u : Fin 48) :
    (Pipeline.afterTail₀ cfgs (dats m) 0 (V0 m) [hostOps1] c main_v68 : FVec Ideal S15x48 .f32) (ix2 r u)
      = written (fun k => kid k = r.val) (fun k => fk m c kid k u) (a5 m c (ix2 r u)) 16384 := by
  rw [tail_cat, arr_cat]
  refine (top_apply _ r u).trans ?_
  exact catAt_apply m c cid kid G 7 _ r u

end Cert.KernelIdeal.Body

end
-- ==== Proof.RefStep.lean ====
/- One trip of the reference's loop, at one example and one unit. -/
module

public import proofs.«01_k».proof.Proof.Gen.ReferenceIdeal.Step
public import proofs.«01_k».proof.Proof.Data
public import Idealize.ShloMosaic.Lib.Pointwise

@[expose] public section

set_option maxRecDepth 16384

noncomputable section

namespace Cert.ReferenceIdeal.Step

open Idealize.ShloMosaic Idealize.ShloMosaic.Tactic Cert.ReferenceIdeal Cert.ReferenceIdeal.Gen Cert.KernelIdeal.Packed Cert.Cell

theorem start_0 (st : Fin 3 → ℤ) (j : Fin 20) (h : st 0 = ((j.val : ℕ) : ℤ)) :
    Host.clampedStart S20x16384x16 S1x16384x16 rfl st 0 = j.val := by
  unfold Host.clampedStart
  rw [h]
  show (min (max ((j.val : ℕ) : ℤ) 0) ((20 - 1 : ℕ) : ℤ)).toNat = j.val
  omega

theorem start_1 (st : Fin 3 → ℤ) (h : st 1 = 0) : Host.clampedStart S20x16384x16 S1x16384x16 rfl st 1 = 0 := by
  unfold Host.clampedStart
  rw [h]
  show (min (max (0 : ℤ) 0) ((16384 - 16384 : ℕ) : ℤ)).toNat = 0
  omega

theorem start_2 (st : Fin 3 → ℤ) (h : st 2 = 0) : Host.clampedStart S20x16384x16 S1x16384x16 rfl st 2 = 0 := by
  unfold Host.clampedStart
  rw [h]
  show (min (max (0 : ℤ) 0) ((16 - 16 : ℕ) : ℤ)).toNat = 0
  omega

/-- The trip's inputs at an index. -/
theorem b3_apply (j : Fin 20) (s : State Ideal) (n : Fin 16384) (k : Fin 16) :
    b3 (F := Ideal) j.val s (ix2 n k) = s.main_v21_0 (ix3 j n k) := by
  unfold b3 b2 b1 b0
  pointwise
  congr 1
  have h0 : (BitVec.ofNat 32 j.val).toInt = ((j.val : ℕ) : ℤ) := by
    rw [BitVec.toInt_eq_toNat_of_lt (by rw [BitVec.toNat_ofNat]; omega), BitVec.toNat_ofNat]
    omega
  have c0 := start_0 (fun k => BitVec.toInt ((![constantI S_ 32 (BitVec.ofNat 32 j.val), constantI S_ 32 0#32, constantI S_ 32 0#32]
    : Fin 3 → IVec S_ 32) k (Shape.Idx.first h_S_))) j h0
  have c1 := start_1 (fun k => BitVec.toInt ((![constantI S_ 32 (BitVec.ofNat 32 j.val), constantI S_ 32 0#32, constantI S_ 32 0#32]
    : Fin 3 → IVec S_ 32) k (Shape.Idx.first h_S_))) rfl
  have c2 := start_2 (fun k => BitVec.toInt ((![constantI S_ 32 (BitVec.ofNat 32 j.val), constantI S_ 32 0#32, constantI S_ 32 0#32]
    : Fin 3 → IVec S_ 32) k (Shape.Idx.first h_S_))) rfl
  refine congr (congr (congrArg ix3 (Fin.ext ?_)) (Fin.ext ?_)) (Fin.ext ?_)
  · exact c0
  · exact (congrArg (· + n.val) c1).trans (Nat.zero_add _)
  · exact (congrArg (· + k.val) c2).trans (Nat.zero_add _)

/-- The input part at an index. -/
theorem b9_apply (j : Fin 20) (s : State Ideal) (n : Fin 16384) (g : Fin 3) (u : Fin 48) :
    b9 (F := Ideal) j.val s (ix2 n (col g u))
      = inPart (mat s.main_v21_1) (mat s.main_v21_2) (fun k => s.main_v21_0 (ix3 j n k)) g u := by
  unfold b9 b8 b7 b6 b5 b4
  pointwise
  simp only [b3_apply]
  rfl

theorem b15_apply (j : Fin 20) (s : State Ideal) (n : Fin 16384) (g : Fin 3) (u : Fin 48) :
    b15 (F := Ideal) j.val s (ix2 n (col g u))
      = recPart (mat s.main_v21_3) (mat s.main_v21_2) (fun k => s.main_v21_8 (ix2 n k)) g u := by
  unfold b15 b14 b13 b12 b11 b10
  pointwise
  rfl

/-- The states after the trip at an index. -/
theorem b48_apply (j : Fin 20) (s : State Ideal) (n : Fin 16384) (u : Fin 48) :
    b48 (F := Ideal) j.val s (ix2 n u)
      = gru (mat s.main_v21_1) (mat s.main_v21_3) (mat s.main_v21_2) (fun k => s.main_v21_0 (ix3 j n k))
          (fun k => s.main_v21_8 (ix2 n k)) u := by
  have e0 : (⟨u.val, by omega⟩ : Fin 144) = col 0 u := Fin.ext (by show u.val = 0 * 48 + u.val; omega)
  have e1 : (⟨48 + u.val, by omega⟩ : Fin 144) = col 1 u := Fin.ext (by show 48 + u.val = 1 * 48 + u.val; omega)
  have e2 : (⟨96 + u.val, by omega⟩ : Fin 144) = col 2 u := Fin.ext (by show 96 + u.val = 2 * 48 + u.val; omega)
  unfold b48 b47 b46 b45 b44 b43 b42 b41 b40 b39 b38 b37 b36 b35 b34 b33 b32 b31 b30 b29 b28 b27 b26 b25 b24 b23 b22 b21 b20 b19 b18 b17 b16
  pointwise
  rw [e0, e1, e2]
  simp only [b9_apply, b15_apply]
  rfl

/-- The second recurrence's input part at an index. -/
theorem b54_apply (j : Fin 20) (s : State Ideal) (n : Fin 16384) (g : Fin 3) (u : Fin 48) :
    b54 (F := Ideal) j.val s (ix2 n (col g u))
      = inPart (mat s.main_v21_4) (mat s.main_v21_5) (fun k => s.main_v21_0 (ix3 j n k)) g u := by
  unfold b54 b53 b52 b51 b50 b49
  pointwise
  simp only [b3_apply]
  rfl

theorem b60_apply (j : Fin 20) (s : State Ideal) (n : Fin 16384) (g : Fin 3) (u : Fin 48) :
    b60 (F := Ideal) j.val s (ix2 n (col g u))
      = recPart (mat s.main_v21_6) (mat s.main_v21_5) (fun k => s.main_v21_9 (ix2 n k)) g u := by
  unfold b60 b59 b58 b57 b56 b55
  pointwise
  rfl

/-- The second recurrence's states after the trip at an index. -/
theorem b93_apply (j : Fin 20) (s : State Ideal) (n : Fin 16384) (u : Fin 48) :
    b93 (F := Ideal) j.val s (ix2 n u)
      = gru (mat s.main_v21_4) (mat s.main_v21_6) (mat s.main_v21_5) (fun k => s.main_v21_0 (ix3 j n k))
          (fun k => s.main_v21_9 (ix2 n k)) u := by
  have e0 : (⟨u.val, by omega⟩ : Fin 144) = col 0 u := Fin.ext (by show u.val = 0 * 48 + u.val; omega)
  have e1 : (⟨48 + u.val, by omega⟩ : Fin 144) = col 1 u := Fin.ext (by show 48 + u.val = 1 * 48 + u.val; omega)
  have e2 : (⟨96 + u.val, by omega⟩ : Fin 144) = col 2 u := Fin.ext (by show 96 + u.val = 2 * 48 + u.val; omega)
  unfold b93 b92 b91 b90 b89 b88 b87 b86 b85 b84 b83 b82 b81 b80 b79 b78 b77 b76 b75 b74 b73 b72 b71 b70 b69 b68 b67 b66 b65 b64 b63 b62 b61
  pointwise
  rw [e0, e1, e2]
  simp only [b54_apply, b60_apply]
  rfl

end Cert.ReferenceIdeal.Step

end
-- ==== Proof.RowScatter.lean ====
/- A scatter that sets whole rows of a table, read at an index: the last row written to it stands. -/
module

public import proofs.«01_k».proof.Proof.Written
public import proofs.«01_k».proof.Proof.Gen.ReferenceIdeal.Step
public import Idealize.ShloMosaic.Lib.Routing.OpsSet
public import Idealize.ShloMosaic.Lib.Pointwise

@[expose] public section

set_option maxRecDepth 16384

noncomputable section

namespace Cert.ReferenceIdeal.Rows

open Idealize.ShloMosaic Cert.Cell Cert.ReferenceIdeal Cert.ReferenceIdeal.Gen

/-- A fold over the numbers below `N` that takes `val k` at each `k` with `p k`. -/
theorem foldl_written {β : Type} (p : ℕ → Prop) [DecidablePred p] (val : ℕ → β) (y : β) :
    ∀ N, (List.finRange N).foldl (fun a (e : Fin N) => if p e.val then val e.val else a) y = written p val y N
  | 0 => rfl
  | N + 1 => by
    rw [List.finRange_succ_last, List.foldl_append, List.foldl_map]
    show (if p N then val N else (List.finRange N).foldl (fun a (e : Fin N) => if p e.val then val e.val else a) y) = _
    rw [foldl_written p val y N]
    rfl

/-- Rows of 48 written element by element: at column `c` the rows are written in turn. -/
theorem written_rows {β : Type} (p : ℕ → Prop) [DecidablePred p] (val : ℕ → β) (y : β) (c : ℕ) (hc : c < 48) (N : ℕ) :
    written (fun k => p (k / 48) ∧ k % 48 = c) (fun k => val (k / 48)) y (N * 48) = written p val y N := by
  induction N with
  | zero => rfl
  | succ N ih =>
    rw [show (N + 1) * 48 = N * 48 + 48 by ring]
    by_cases h : p N
    · rw [written_last _ _ _ (N * 48) 48 c hc]
      · rw [written, if_pos h]
        congr 1
        omega
      · exact ⟨by rw [show (N * 48 + c) / 48 = N by omega]; exact h, by omega⟩
      · rintro j h1 h2 ⟨_, h3⟩
        omega
    · rw [written_none _ _ _ (N * 48) 48, ih, written, if_neg h]
      rintro k hk ⟨h1, _⟩
      rw [show (N * 48 + k) / 48 = N by omega] at h1
      exact h h1

/-- Where row `n` of the updates lands in the first table. -/
theorem lands_card (idx : IVec S16384x1 32) (n : Fin 16384) (u : Fin 48) (r : Fin 1000) (c : Fin 48) :
    scatter_S1000x48_S16384x1_S16384x48_1_0_0_1.resultIdx? (ix2 n u) idx = some (ix2 r c)
      ↔ (idx (ix2 n 0)).toInt = (r.val : ℤ) ∧ u.val = c.val := by
  have e0 : scatter_S1000x48_S16384x1_S16384x48_1_0_0_1.start (ix2 n u) idx 0 = (idx (ix2 n 0)).toInt := by
    unfold ScatterDims.start
    rw [dif_pos (by decide)]
    congr 2
    funext b
    match b with
    | ⟨0, _⟩ => rfl
    | ⟨1, _⟩ => rfl
  have e1 : scatter_S1000x48_S16384x1_S16384x48_1_0_0_1.start (ix2 n u) idx 1 = 0 := by
    unfold ScatterDims.start
    rw [dif_neg (by decide)]
  have w0 : scatter_S1000x48_S16384x1_S16384x48_1_0_0_1.window (ix2 n u) 0 = 0 := by
    unfold ScatterDims.window
    rw [dif_neg (by decide)]
  have w1 : scatter_S1000x48_S16384x1_S16384x48_1_0_0_1.window (ix2 n u) 1 = u.val := by
    unfold ScatterDims.window
    rw [dif_pos (by decide)]
    rfl
  rw [Routing.resultIdx?_eq_some]
  constructor
  · intro h
    have h0 := h 0
    have h1 := h 1
    rw [e0, w0] at h0
    rw [e1, w1] at h1
    refine ⟨?_, ?_⟩
    · simpa using h0
    · simpa using h1
  · rintro ⟨h0, h1⟩ a
    match a with
    | ⟨0, _⟩ => exact (congrArg₂ (fun x (y : ℕ) => x + (y : ℤ)) e0 w0).trans (by simpa using h0)
    | ⟨1, _⟩ => exact (congrArg₂ (fun x (y : ℕ) => x + (y : ℤ)) e1 w1).trans (by simpa using h1)

/-- Where row `n` of the updates lands in the second table. -/
theorem lands_cat (idx : IVec S16384x1 32) (n : Fin 16384) (u : Fin 48) (r : Fin 15) (c : Fin 48) :
    scatter_S15x48_S16384x1_S16384x48_1_0_0_1.resultIdx? (ix2 n u) idx = some (ix2 r c)
      ↔ (idx (ix2 n 0)).toInt = (r.val : ℤ) ∧ u.val = c.val := by
  have e0 : scatter_S15x48_S16384x1_S16384x48_1_0_0_1.start (ix2 n u) idx 0 = (idx (ix2 n 0)).toInt := by
    unfold ScatterDims.start
    rw [dif_pos (by decide)]
    congr 2
    funext b
    match b with
    | ⟨0, _⟩ => rfl
    | ⟨1, _⟩ => rfl
  have e1 : scatter_S15x48_S16384x1_S16384x48_1_0_0_1.start (ix2 n u) idx 1 = 0 := by
    unfold ScatterDims.start
    rw [dif_neg (by decide)]
  have w0 : scatter_S15x48_S16384x1_S16384x48_1_0_0_1.window (ix2 n u) 0 = 0 := by
    unfold ScatterDims.window
    rw [dif_neg (by decide)]
  have w1 : scatter_S15x48_S16384x1_S16384x48_1_0_0_1.window (ix2 n u) 1 = u.val := by
    unfold ScatterDims.window
    rw [dif_pos (by decide)]
    rfl
  rw [Routing.resultIdx?_eq_some]
  constructor
  · intro h
    have h0 := h 0
    have h1 := h 1
    rw [e0, w0] at h0
    rw [e1, w1] at h1
    refine ⟨?_, ?_⟩
    · simpa using h0
    · simpa using h1
  · rintro ⟨h0, h1⟩ a
    match a with
    | ⟨0, _⟩ => exact (congrArg₂ (fun x (y : ℕ) => x + (y : ℤ)) e0 w0).trans (by simpa using h0)
    | ⟨1, _⟩ => exact (congrArg₂ (fun x (y : ℕ) => x + (y : ℤ)) e1 w1).trans (by simpa using h1)

/-- The number of elements of the updates. -/
theorem numel_rows : S16384x48.numel = 16384 * 48 := rfl

/-- Two folds over as many numbers agree when their steps do. -/
theorem fold_congr {β : Type} (M N : ℕ) (hM : M = N) (g : β → Fin M → β) (g' : β → Fin N → β) (y : β)
    (hg : ∀ a n, g a n = g' a (n.cast hM)) : (List.finRange M).foldl g y = (List.finRange N).foldl g' y := by
  subst hM
  exact congrArg (fun f => (List.finRange M).foldl f y) (funext fun a => funext fun n => hg a n)

/-- The first table with the examples' rows set, at an index: the last example's with that row's id. -/
theorem scatter_card (x0 : S1000x48.Idx → EReal) (idx : IVec S16384x1 32) (upd : S16384x48.Idx → EReal) (r : Fin 1000) (c : Fin 48)
    (ids : ℕ → ℕ) (hids : ∀ n : Fin 16384, (idx (ix2 n 0)).toInt = (ids n.val : ℤ)) (val : ℕ → EReal)
    (hval : ∀ n : Fin 16384, upd (ix2 n c) = val n.val) :
    Host.scatter scatter_S1000x48_S16384x1_S16384x48_1_0_0_1 (fun _ b => b) x0 idx upd (ix2 r c)
      = written (fun n => ids n = r.val) val (x0 (ix2 r c)) 16384 := by
  rw [Routing.scatter_at, ← written_rows _ _ _ c.val c.isLt 16384, ← foldl_written]
  refine fold_congr _ _ numel_rows _ _ _ fun a n => ?_
  have hn : n.val < 16384 * 48 := n.isLt
  have es : S16384x48.rowMajor.symm n = ix2 (⟨n.val / 48, by omega⟩ : Fin 16384) (⟨n.val % 48, by omega⟩ : Fin 48) := by
    rw [ix2_eq_valueIdx]
    exact Routing.symm22 n (by omega) (by omega)
  rw [es]
  dsimp only [Fin.val_cast]
  by_cases h : ids (n.val / 48) = r.val ∧ n.val % 48 = c.val
  · rw [if_pos ((lands_card idx _ _ r c).mpr ⟨by rw [hids]; exact congrArg _ h.1, h.2⟩), if_pos h]
    have e : (⟨n.val % 48, by omega⟩ : Fin 48) = c := Fin.ext h.2
    rw [e, hval]
  · rw [if_neg, if_neg h]
    intro q
    have := (lands_card idx _ _ r c).mp q
    rw [hids] at this
    exact h ⟨by exact_mod_cast this.1, this.2⟩

/-- The second table with the examples' rows set, at an index: the last example's with that row's id. -/
theorem scatter_cat (x0 : S15x48.Idx → EReal) (idx : IVec S16384x1 32) (upd : S16384x48.Idx → EReal) (r : Fin 15) (c : Fin 48)
    (ids : ℕ → ℕ) (hids : ∀ n : Fin 16384, (idx (ix2 n 0)).toInt = (ids n.val : ℤ)) (val : ℕ → EReal)
    (hval : ∀ n : Fin 16384, upd (ix2 n c) = val n.val) :
    Host.scatter scatter_S15x48_S16384x1_S16384x48_1_0_0_1 (fun _ b => b) x0 idx upd (ix2 r c)
      = written (fun n => ids n = r.val) val (x0 (ix2 r c)) 16384 := by
  rw [Routing.scatter_at, ← written_rows _ _ _ c.val c.isLt 16384, ← foldl_written]
  refine fold_congr _ _ numel_rows _ _ _ fun a n => ?_
  have hn : n.val < 16384 * 48 := n.isLt
  have es : S16384x48.rowMajor.symm n = ix2 (⟨n.val / 48, by omega⟩ : Fin 16384) (⟨n.val % 48, by omega⟩ : Fin 48) := by
    rw [ix2_eq_valueIdx]
    exact Routing.symm22 n (by omega) (by omega)
  rw [es]
  dsimp only [Fin.val_cast]
  by_cases h : ids (n.val / 48) = r.val ∧ n.val % 48 = c.val
  · rw [if_pos ((lands_cat idx _ _ r c).mpr ⟨by rw [hids]; exact congrArg _ h.1, h.2⟩), if_pos h]
    have e : (⟨n.val % 48, by omega⟩ : Fin 48) = c := Fin.ext h.2
    rw [e, hval]
  · rw [if_neg, if_neg h]
    intro q
    have := (lands_cat idx _ _ r c).mp q
    rw [hids] at this
    exact h ⟨by exact_mod_cast this.1, this.2⟩

end Cert.ReferenceIdeal.Rows

end
-- ==== Proof.RefValue.lean ====
/- The reference's results: the states its trips leave, its scores and its two written tables. -/
module

public import proofs.«01_k».proof.Proof.RefStep
public import proofs.«01_k».proof.Proof.RowScatter
public import Idealize.ShloMosaic.Lib.Routing.Ops
public import Idealize.ShloMosaic.Lib.Pointwise.IndexBridge

@[expose] public section

set_option maxRecDepth 16384

noncomputable section

namespace Cert.ReferenceIdeal.Step

open Idealize.ShloMosaic Idealize.ShloMosaic.Tactic Cert.ReferenceIdeal Cert.ReferenceIdeal.Gen Cert.KernelIdeal.Packed Cert.Cell

/-- A small natural number, converted to a word. -/
theorem fptosi_nat (k : ℕ) (hk : k < 15) : FloatOps.fptosi (F := Ideal) (φ := .f32) 32 ((k : ℝ) : EReal) = BitVec.ofNat 32 k := by
  show Ideal.fptosi 32 ((k : ℝ) : EReal) = _
  unfold Ideal.fptosi
  rw [Ideal.toIntClamped_coe, if_pos (by positivity), Int.floor_natCast]
  interval_cases k <;> rfl

/-- A row read of the first table. -/
theorem gather_card (x : FVec Ideal S1000x48 .f32) (idx : IVec S16384x1 32) (n : Fin 16384) (u : Fin 48) (b : Fin 1000)
    (hb : idx (ix2 n 0) = BitVec.ofNat 32 b.val) :
    Host.gather gather_S1000x48_S16384x1_S16384x48_1_0_n_n_0_1_148 x idx (ix2 n u) = x (ix2 b u) := by
  rw [ix2_eq_valueIdx] at hb
  rw [ix2_eq_valueIdx, ix2_eq_valueIdx]
  exact Routing.gather_row (nb := 1000) (B := 48) (n := 16384) gather_S1000x48_S16384x1_S16384x48_1_0_n_n_0_1_148 rfl rfl rfl rfl rfl
    x idx n u b hb (by norm_num)

/-- A row read of the second table. -/
theorem gather_cat (x : FVec Ideal S15x48 .f32) (idx : IVec S16384x1 32) (n : Fin 16384) (u : Fin 48) (b : Fin 15)
    (hb : idx (ix2 n 0) = BitVec.ofNat 32 b.val) :
    Host.gather gather_S15x48_S16384x1_S16384x48_1_0_n_n_0_1_148 x idx (ix2 n u) = x (ix2 b u) := by
  rw [ix2_eq_valueIdx] at hb
  rw [ix2_eq_valueIdx, ix2_eq_valueIdx]
  exact Routing.gather_row (nb := 15) (B := 48) (n := 16384) gather_S15x48_S16384x1_S16384x48_1_0_n_n_0_1_148 rfl rfl rfl rfl rfl
    x idx n u b hb (by norm_num)

variable (a0 : FVec Ideal S16384x20x16 .f32) (a1 : FVec Ideal S1000x48 .f32) (a2 : FVec Ideal S16x144 .f32)
  (a3 : FVec Ideal S48x144 .f32) (a4 : FVec Ideal S2x144 .f32) (a5 : FVec Ideal S15x48 .f32) (a6 : FVec Ideal S16x144 .f32)
  (a7 : FVec Ideal S48x144 .f32) (a8 : FVec Ideal S2x144 .f32) (a9 : FVec Ideal S96x1 .f32) (a10 : FVec Ideal S1 .f32)
  (cid kid : ℕ → ℕ)
  (G : Good (fun n j k => a0 (ix3 n j k)) (mat a1) (mat a5) (mat a3) (mat a7) (mat a4) (mat a8) cid kid)

/-- The states before each trip. -/
def trips : ℕ → State Ideal
  | 0 => init a2 a4 a3 a6 a8 a7 a0 a1 a5
  | n + 1 => step n (trips n)

include G

/-- The first id of an example, as a word. -/
theorem v8_apply (n : Fin 16384) : A_main_v8 (F := Ideal) a0 a1 a5 (ix2 n 0) = BitVec.ofNat 32 (cid n.val) := by
  have h := G.cid_lt n.val
  have e : a0 (ix3 n 0 0) = ((cid n.val : ℝ) : EReal) := G.card n
  unfold A_main_v8 A_main_v7 A_main_v6 A_main_v4 A_main_v2 A_main_v1 A_main_v0 K_main_v3 K_main_v5 K_main_c K_main_c_0
  pointwise
  rw [e, fptosi_nat _ h]
  generalize cid n.val = k at h
  interval_cases k <;> rfl

/-- The second id of an example, as a word. -/
theorem v18_apply (n : Fin 16384) : A_main_v18 (F := Ideal) a0 a1 a5 (ix2 n 0) = BitVec.ofNat 32 (kid n.val) := by
  have h := G.kid_lt n.val
  have e : a0 (ix3 n 0 2) = ((kid n.val : ℝ) : EReal) := G.cat n
  unfold A_main_v18 A_main_v17 A_main_v16 A_main_v14 A_main_v12 A_main_v11 A_main_v10 K_main_v13 K_main_v15 K_main_c_1 K_main_c_2
  pointwise
  rw [e, fptosi_nat _ h]
  generalize kid n.val = k at h
  interval_cases k <;> rfl

/-- The states the first recurrence starts from. -/
theorem v9_apply (n : Fin 16384) (u : Fin 48) : A_main_v9 (F := Ideal) a0 a1 a5 (ix2 n u) = rowsOf (mat a1) (cid n.val) u := by
  have h := G.cid_lt n.val
  unfold A_main_v9
  have hb : cid n.val < 1000 := by omega
  have e := gather_card a1 (A_main_v8 (F := Ideal) a0 a1 a5) n u (⟨cid n.val, hb⟩ : Fin 1000) (v8_apply a0 a1 a3 a4 a5 a7 a8 cid kid G n)
  refine e.trans ?_
  exact (rowsOf_eq (mat a1) (⟨cid n.val, hb⟩ : Fin 1000) u).symm

/-- The states the second recurrence starts from. -/
theorem v19_apply (n : Fin 16384) (u : Fin 48) : A_main_v19 (F := Ideal) a0 a1 a5 (ix2 n u) = rowsOf (mat a5) (kid n.val) u := by
  have h := G.kid_lt n.val
  unfold A_main_v19
  have hb : kid n.val < 15 := by omega
  have e := gather_cat a5 (A_main_v18 (F := Ideal) a0 a1 a5) n u (⟨kid n.val, hb⟩ : Fin 15) (v18_apply a0 a1 a3 a4 a5 a7 a8 cid kid G n)
  refine e.trans ?_
  exact (rowsOf_eq (mat a5) (⟨kid n.val, hb⟩ : Fin 15) u).symm

omit G in
theorem v20_apply (n : Fin 16384) (j : Fin 20) (k : Fin 16) : A_main_v20 (F := Ideal) a0 a1 a5 (ix3 j n k) = a0 (ix3 n j k) := by
  unfold A_main_v20
  pointwise

omit G in
/-- The trips change only the two states. -/
theorem trips_const (n : ℕ) :
    (trips a0 a1 a2 a3 a4 a5 a6 a7 a8 n).main_v21_0 = A_main_v20 (F := Ideal) a0 a1 a5
      ∧ (trips a0 a1 a2 a3 a4 a5 a6 a7 a8 n).main_v21_1 = a2 ∧ (trips a0 a1 a2 a3 a4 a5 a6 a7 a8 n).main_v21_2 = a4
      ∧ (trips a0 a1 a2 a3 a4 a5 a6 a7 a8 n).main_v21_3 = a3 ∧ (trips a0 a1 a2 a3 a4 a5 a6 a7 a8 n).main_v21_4 = a6
      ∧ (trips a0 a1 a2 a3 a4 a5 a6 a7 a8 n).main_v21_5 = a8 ∧ (trips a0 a1 a2 a3 a4 a5 a6 a7 a8 n).main_v21_6 = a7 := by
  induction n with
  | zero => exact ⟨rfl, rfl, rfl, rfl, rfl, rfl, rfl⟩
  | succ n ih => exact ih

/-- The states after `j` trips. -/
theorem trips_apply (j : ℕ) (hj : j ≤ 20) (n : Fin 16384) (u : Fin 48) :
    (trips a0 a1 a2 a3 a4 a5 a6 a7 a8 j).main_v21_8 (ix2 n u)
        = states (mat a2) (mat a3) (mat a4) (inputs (fun n j k => a0 (ix3 n j k)) n.val) (rowsOf (mat a1) (cid n.val)) j u
      ∧ (trips a0 a1 a2 a3 a4 a5 a6 a7 a8 j).main_v21_9 (ix2 n u)
        = states (mat a6) (mat a7) (mat a8) (inputs (fun n j k => a0 (ix3 n j k)) n.val) (rowsOf (mat a5) (kid n.val)) j u := by
  induction j generalizing u with
  | zero => exact ⟨v9_apply a0 a1 a3 a4 a5 a7 a8 cid kid G n u, v19_apply a0 a1 a3 a4 a5 a7 a8 cid kid G n u⟩
  | succ j ih =>
    obtain ⟨c0, c1, c2, c3, c4, c5, c6⟩ := trips_const a0 a1 a2 a3 a4 a5 a6 a7 a8 j
    have hx : (fun k => (trips a0 a1 a2 a3 a4 a5 a6 a7 a8 j).main_v21_0 (ix3 (⟨j, by omega⟩ : Fin 20) n k))
        = inputs (fun n j k => a0 (ix3 n j k)) n.val j := by
      funext k
      rw [c0, v20_apply]
      exact (inputs_eq (fun n j k => a0 (ix3 n j k)) n ⟨j, by omega⟩ k).symm
    constructor
    · refine (b48_apply ⟨j, by omega⟩ _ n u).trans ?_
      rw [hx, c1, c2, c3, funext fun u => (ih (by omega) u).1]
      rfl
    · refine (b93_apply ⟨j, by omega⟩ _ n u).trans ?_
      rw [hx, c4, c5, c6, funext fun u => (ih (by omega) u).2]
      rfl

/-- The scores. -/
theorem v52_apply (n : Fin 16384) :
    R_main_v52 (trips a0 a1 a2 a3 a4 a5 a6 a7 a8 20) a9 a10 (ix2 n 0)
      = score (fun l => a9 (ix2 l 0)) (a10 (ix1 0))
          (finals (mat a2) (mat a3) (mat a4) (fun n j k => a0 (ix3 n j k)) (rowsOf (mat a1)) cid n.val)
          (finals (mat a6) (mat a7) (mat a8) (fun n j k => a0 (ix3 n j k)) (rowsOf (mat a5)) kid n.val) := by
  have hc := fun u => (trips_apply a0 a1 a2 a3 a4 a5 a6 a7 a8 cid kid G 20 le_rfl n u).1
  have hk := fun u => (trips_apply a0 a1 a2 a3 a4 a5 a6 a7 a8 cid kid G 20 le_rfl n u).2
  unfold R_main_v52 score finals
  pointwise
  simp only [hc, hk]
  rfl

/-- The first table written. -/
theorem v31_apply (r : Fin 1000) (u : Fin 48) :
    R_main_v31 (trips a0 a1 a2 a3 a4 a5 a6 a7 a8 20) a0 a1 (ix2 r u)
      = written (fun k => cid k = r.val)
          (fun k => finals (mat a2) (mat a3) (mat a4) (fun n j k => a0 (ix3 n j k)) (rowsOf (mat a1)) cid k u) (a1 (ix2 r u)) 16384 := by
  refine Rows.scatter_card a1 (A_main_v8 (F := Ideal) a0 a1 a5) _ r u cid ?_ _ ?_
  · intro n
    rw [v8_apply a0 a1 a3 a4 a5 a7 a8 cid kid G n]
    have h := G.cid_lt n.val
    generalize cid n.val = k at h
    interval_cases k <;> rfl
  · exact fun n => (trips_apply a0 a1 a2 a3 a4 a5 a6 a7 a8 cid kid G 20 le_rfl n u).1

/-- The second table written. -/
theorem v41_apply (r : Fin 15) (u : Fin 48) :
    R_main_v41 (trips a0 a1 a2 a3 a4 a5 a6 a7 a8 20) a0 a5 (ix2 r u)
      = written (fun k => kid k = r.val)
          (fun k => finals (mat a6) (mat a7) (mat a8) (fun n j k => a0 (ix3 n j k)) (rowsOf (mat a5)) kid k u) (a5 (ix2 r u)) 16384 := by
  refine Rows.scatter_cat a5 (A_main_v18 (F := Ideal) a0 a1 a5) _ r u kid ?_ _ ?_
  · intro n
    rw [v18_apply a0 a1 a3 a4 a5 a7 a8 cid kid G n]
    have h := G.kid_lt n.val
    generalize kid n.val = k at h
    interval_cases k <;> rfl
  · exact fun n => (trips_apply a0 a1 a2 a3 a4 a5 a6 a7 a8 cid kid G 20 le_rfl n u).2

end Cert.ReferenceIdeal.Step

end
-- ==== Proof.Served.lean ====
/- What the precondition says of the inputs. -/
module

public import proofs.«01_k».proof.Proof.Gen.Pre_served
public import proofs.«01_k».proof.Proof.Data
public import Idealize.ShloMosaic.Lib.Pointwise

@[expose] public section

set_option maxRecDepth 16384

noncomputable section

namespace Cert.Pre_served.Read

open Idealize.ShloMosaic Idealize.ShloMosaic.Tactic Cert.Pre_served Cert.Pre_served.Gen Cert.KernelIdeal.Packed Cert.Cell

variable (x0 : FVec Ideal S16384x20x16 .f32) (x1 : FVec Ideal S1000x48 .f32) (x2 : FVec Ideal S16x144 .f32)
  (x3 : FVec Ideal S48x144 .f32) (x4 : FVec Ideal S2x144 .f32) (x5 : FVec Ideal S15x48 .f32) (x6 : FVec Ideal S16x144 .f32)
  (x7 : FVec Ideal S48x144 .f32) (x8 : FVec Ideal S2x144 .f32) (x9 : FVec Ideal S96x1 .f32) (x10 : FVec Ideal S1 .f32)

/-- A word that converts back to a number, between zero and fourteen: that number. -/
theorem id_word (a : EReal) (w : BitVec 32)
    (h : IntOp.andi (IntOp.andi (BitVec.ofBool (decide (FloatOps.sitofp (F := Ideal) FTy.f32 w = a)))
      (IntOp.cmpi CmpIPredicate.sge w 0#32)) (IntOp.cmpi CmpIPredicate.slt w 15#32) = 1#1) :
    ∃ k : ℕ, k < 15 ∧ a = ((k : ℝ) : EReal) := by
  have bits : ∀ p q r : Bool, IntOp.andi (IntOp.andi (BitVec.ofBool p) (BitVec.ofBool q)) (BitVec.ofBool r) = 1#1 →
      p = true ∧ q = true ∧ r = true := by decide
  obtain ⟨h1, h2, h3⟩ := bits _ _ _ h
  have e1 : ((w.toInt : ℝ) : EReal) = a := of_decide_eq_true h1
  have e2 : (0 : ℤ) ≤ w.toInt := by
    have := BitVec.sle_iff_toInt_le.mp h2
    simpa using this
  have e3 : w.toInt < 15 := by
    have := BitVec.slt_iff_toInt_lt.mp h3
    simpa using this
  refine ⟨w.toInt.toNat, by omega, ?_⟩
  rw [← e1]
  congr 1
  have : ((w.toInt.toNat : ℤ) : ℝ) = (w.toInt : ℝ) := by rw [Int.toNat_of_nonneg e2]
  rw [← this]
  norm_cast

/-- A number whose absolute value is below some number is finite. -/
theorem fin_of (x y : EReal) (h : BitVec.ofBool (decide (FloatOps.absf (F := Ideal) (φ := .f32) x < y)) = 1#1) : Fin' x := by
  have e : max x (-x) < y := by
    by_contra hn
    have : decide (FloatOps.absf (F := Ideal) (φ := .f32) x < y) = false := decide_eq_false hn
    rw [this] at h
    exact absurd h (by decide)
  induction x using EReal.rec with
  | bot => exact absurd (lt_of_le_of_lt (le_max_right _ _) e) (by simp)
  | coe r => exact ⟨r, rfl⟩
  | top => exact absurd (lt_of_le_of_lt (le_max_left _ _) e) (by simp)

theorem card_of (n : Fin 16384) (h : (fn (F := Ideal) x0 x1 x2 x3 x4 x5 x6 x7 x8 x9 x10).1 = fun _ => 1#1) :
    ∃ k : ℕ, k < 15 ∧ x0 (ix3 n 0 0) = ((k : ℝ) : EReal) := by
  have e := congrFun h (ix1 n)
  unfold fn fn_part1 fn_part2 at e
  dsimp only at e
  pointwise at e
  exact id_word _ _ e

theorem cat_of (n : Fin 16384) (h : (fn (F := Ideal) x0 x1 x2 x3 x4 x5 x6 x7 x8 x9 x10).2.1 = fun _ => 1#1) :
    ∃ k : ℕ, k < 15 ∧ x0 (ix3 n 0 2) = ((k : ℝ) : EReal) := by
  have e := congrFun h (ix1 n)
  unfold fn fn_part1 fn_part2 at e
  dsimp only at e
  pointwise at e
  exact id_word _ _ e

theorem tcard_of (r : Fin 15) (u : Fin 48) (h : (fn (F := Ideal) x0 x1 x2 x3 x4 x5 x6 x7 x8 x9 x10).2.2.1 = fun _ => 1#1) :
    Fin' (x1 (ix2 ⟨r.val, by omega⟩ u)) := by
  have e := congrFun h (ix2 r u)
  unfold fn fn_part1 fn_part2 at e
  dsimp only at e
  pointwise at e
  exact fin_of _ _ e

theorem tcat_of (r : Fin 15) (u : Fin 48) (h : (fn (F := Ideal) x0 x1 x2 x3 x4 x5 x6 x7 x8 x9 x10).2.2.2.1 = fun _ => 1#1) :
    Fin' (x5 (ix2 r u)) := by
  have e := congrFun h (ix2 r u)
  unfold fn fn_part1 fn_part2 at e
  dsimp only at e
  pointwise at e
  exact fin_of _ _ e

theorem rcard_of (l u : Fin 48) (h : (fn (F := Ideal) x0 x1 x2 x3 x4 x5 x6 x7 x8 x9 x10).2.2.2.2.1 = fun _ => 1#1) :
    Fin' (x3 (ix2 l ⟨96 + u.val, by omega⟩)) := by
  have e := congrFun h (ix2 l u)
  unfold fn fn_part1 fn_part2 at e
  dsimp only at e
  pointwise at e
  exact fin_of _ _ e

theorem rcat_of (l u : Fin 48) (h : (fn (F := Ideal) x0 x1 x2 x3 x4 x5 x6 x7 x8 x9 x10).2.2.2.2.2.1 = fun _ => 1#1) :
    Fin' (x7 (ix2 l ⟨96 + u.val, by omega⟩)) := by
  have e := congrFun h (ix2 l u)
  unfold fn fn_part1 fn_part2 at e
  dsimp only at e
  pointwise at e
  exact fin_of _ _ e

theorem bcard_of (u : Fin 48) (h : (fn (F := Ideal) x0 x1 x2 x3 x4 x5 x6 x7 x8 x9 x10).2.2.2.2.2.2.1 = fun _ => 1#1) :
    Fin' (x4 (ix2 1 ⟨96 + u.val, by omega⟩)) := by
  have e := congrFun h (ix1 u)
  unfold fn fn_part1 fn_part2 at e
  dsimp only at e
  pointwise at e
  exact fin_of _ _ e

theorem bcat_of (u : Fin 48) (h : (fn (F := Ideal) x0 x1 x2 x3 x4 x5 x6 x7 x8 x9 x10).2.2.2.2.2.2.2 = fun _ => 1#1) :
    Fin' (x8 (ix2 1 ⟨96 + u.val, by omega⟩)) := by
  have e := congrFun h (ix1 u)
  unfold fn fn_part1 fn_part2 at e
  dsimp only at e
  pointwise at e
  exact fin_of _ _ e

/-- The precondition gives the conditions, for some ids. -/
theorem good_of
    (h0 : (fn (F := Ideal) x0 x1 x2 x3 x4 x5 x6 x7 x8 x9 x10).1 = fun _ => 1#1)
    (h1 : (fn (F := Ideal) x0 x1 x2 x3 x4 x5 x6 x7 x8 x9 x10).2.1 = fun _ => 1#1)
    (h2 : (fn (F := Ideal) x0 x1 x2 x3 x4 x5 x6 x7 x8 x9 x10).2.2.1 = fun _ => 1#1)
    (h3 : (fn (F := Ideal) x0 x1 x2 x3 x4 x5 x6 x7 x8 x9 x10).2.2.2.1 = fun _ => 1#1)
    (h4 : (fn (F := Ideal) x0 x1 x2 x3 x4 x5 x6 x7 x8 x9 x10).2.2.2.2.1 = fun _ => 1#1)
    (h5 : (fn (F := Ideal) x0 x1 x2 x3 x4 x5 x6 x7 x8 x9 x10).2.2.2.2.2.1 = fun _ => 1#1)
    (h6 : (fn (F := Ideal) x0 x1 x2 x3 x4 x5 x6 x7 x8 x9 x10).2.2.2.2.2.2.1 = fun _ => 1#1)
    (h7 : (fn (F := Ideal) x0 x1 x2 x3 x4 x5 x6 x7 x8 x9 x10).2.2.2.2.2.2.2 = fun _ => 1#1) :
    ∃ cid kid : ℕ → ℕ, Good (fun n j k => x0 (ix3 n j k)) (mat x1) (mat x5) (mat x3) (mat x7) (mat x4) (mat x8) cid kid := by
  have hc := fun n => card_of x0 x1 x2 x3 x4 x5 x6 x7 x8 x9 x10 n h0
  have hk := fun n => cat_of x0 x1 x2 x3 x4 x5 x6 x7 x8 x9 x10 n h1
  choose cf hc1 hc2 using hc
  choose kf hk1 hk2 using hk
  have e2 : ∀ u : Fin 48, (⟨96 + u.val, by omega⟩ : Fin 144) = col 2 u := fun u => Fin.ext (by show 96 + u.val = 2 * 48 + u.val; omega)
  refine ⟨fun n => if hn : n < 16384 then cf ⟨n, hn⟩ else 0, fun n => if hn : n < 16384 then kf ⟨n, hn⟩ else 0, ?_, ?_, ?_, ?_, ?_, ?_, ⟨?_, ?_⟩, ⟨?_, ?_⟩⟩
  · intro n
    split
    · exact hc1 _
    · omega
  · intro n
    split
    · exact hk1 _
    · omega
  · intro n
    rw [dif_pos n.isLt]
    exact hc2 n
  · intro n
    rw [dif_pos n.isLt]
    exact hk2 n
  · exact fun r u => tcard_of x0 x1 x2 x3 x4 x5 x6 x7 x8 x9 x10 r u h2
  · exact fun r u => tcat_of x0 x1 x2 x3 x4 x5 x6 x7 x8 x9 x10 r u h3
  · exact fun l u => by
      rw [← e2]; exact rcard_of x0 x1 x2 x3 x4 x5 x6 x7 x8 x9 x10 l u h4
  · exact fun u => by
      rw [← e2]; exact bcard_of x0 x1 x2 x3 x4 x5 x6 x7 x8 x9 x10 u h6
  · exact fun l u => by
      rw [← e2]; exact rcat_of x0 x1 x2 x3 x4 x5 x6 x7 x8 x9 x10 l u h5
  · exact fun u => by
      rw [← e2]; exact bcat_of x0 x1 x2 x3 x4 x5 x6 x7 x8 x9 x10 u h7

end Cert.Pre_served.Read

end
-- ==== Proof.Algebraic.lean ====
/- The kernel's results and the reference's are equal, element by element. -/
module

public import proofs.«01_k».proof.Defs
public import proofs.«01_k».proof.Proof.KernelOut
public import proofs.«01_k».proof.Proof.RefValue
public import proofs.«01_k».proof.Proof.Served
public import proofs.«01_k».proof.Proof.Gen.ReferenceIdeal.StepRun
public import Idealize.ShloMosaic.Adequacy
public import Idealize.ShloMosaic.Init

@[expose] public section

set_option maxRecDepth 16384

noncomputable section

namespace Cert.KernelIdeal.Body

open Idealize.ShloMosaic Idealize.ShloMosaic.TcCoe Idealize.ShloMosaic.Tactic Idealize.SL Idealize.SL.Sem
open Cert.KernelIdeal.Gen Cert.KernelIdeal.Block Cert.KernelIdeal.Packed Cert.Cell

variable (m : (ℓ : Loc nD τ sig) → Buf (Elt Ideal) ℓ)

/-- Two arrays of two axes are equal when their elements are. -/
theorem ext_ix2 {a b : ℕ} {f g : FVec Ideal ⟨2, ![a, b]⟩ .f32} (h : ∀ (r : Fin a) (l : Fin b), f (ix2 r l) = g (ix2 r l)) : f = g := by
  funext j
  have e : j = ix2 (⟨(j 0).val, (j 0).isLt⟩ : Fin a) (⟨(j 1).val, (j 1).isLt⟩ : Fin b) := by
    funext d
    match d with
    | ⟨0, _⟩ => rfl
    | ⟨1, _⟩ => rfl
  rw [e]
  exact h _ _

/-- The states of the reference's loop, from the kernel's arguments. -/
def loop (c : Dev nD) (n : ℕ) : Cert.ReferenceIdeal.Step.State Ideal :=
  Cert.ReferenceIdeal.Step.trips (a0 m c) (a1 m c) (a2 m c) (a3 m c) (a4 m c) (a5 m c) (a6 m c) (a7 m c) (a8 m c) n

section Equal

variable (c : Dev nD) (cid kid : ℕ → ℕ)
  (G : Good (xs m c) (mat (a1 m c)) (mat (a5 m c)) (mat (a3 m c)) (mat (a7 m c)) (mat (a4 m c)) (mat (a8 m c)) cid kid)

include G in
/-- The scores are the reference's. -/
theorem scores_eq : (Pipeline.afterTail₀ cfgs (dats m) 0 (V0 m) [hostOps1] c main_v67 : FVec Ideal S16384x1 .f32)
    = Cert.ReferenceIdeal.Step.R_main_v52 (loop m c 20) (a9 m c) (a10 m c) := by
  refine ext_ix2 fun n l => ?_
  obtain rfl : l = 0 := Subsingleton.elim _ _
  exact (out_scores m c cid kid G n).trans (Cert.ReferenceIdeal.Step.v52_apply (a0 m c) (a1 m c) (a2 m c) (a3 m c) (a4 m c) (a5 m c) (a6 m c)
    (a7 m c) (a8 m c) (a9 m c) (a10 m c) cid kid G n).symm

include G in
/-- The first table is the reference's. -/
theorem card_eq : ((dats m 0 c).arrAt 9 cfg0.N : FVec Ideal S1000x48 .f32)
    = Cert.ReferenceIdeal.Step.R_main_v31 (loop m c 20) (a0 m c) (a1 m c) := by
  refine ext_ix2 fun r u => ?_
  exact (out_card m c cid kid G r u).trans (Cert.ReferenceIdeal.Step.v31_apply (a0 m c) (a1 m c) (a2 m c) (a3 m c) (a4 m c) (a5 m c) (a6 m c)
    (a7 m c) (a8 m c) cid kid G r u).symm

include G in
/-- The second table is the reference's. -/
theorem cat_eq : (Pipeline.afterTail₀ cfgs (dats m) 0 (V0 m) [hostOps1] c main_v68 : FVec Ideal S15x48 .f32)
    = Cert.ReferenceIdeal.Step.R_main_v41 (loop m c 20) (a0 m c) (a5 m c) := by
  refine ext_ix2 fun r u => ?_
  exact (out_cat m c cid kid G r u).trans (Cert.ReferenceIdeal.Step.v41_apply (a0 m c) (a1 m c) (a2 m c) (a3 m c) (a4 m c) (a5 m c) (a6 m c)
    (a7 m c) (a8 m c) cid kid G r u).symm

end Equal

/-- The kernel's run ends with the reference's values in its three results. -/
theorem results (ρ : Dev nD → PrngReg) (hG : ∀ c, ∃ cid kid : ℕ → ℕ,
      Good (xs m c) (mat (a1 m c)) (mat (a5 m c)) (mat (a3 m c)) (mat (a7 m c)) (mat (a4 m c)) (mat (a8 m c)) cid kid) :
    θ_run defs (onTc (τ := τ) (main (F := Ideal))) ⟨m, fun _ => 0, ρ⟩ (fun r => ∀ c : Dev nD,
      r.2.mem ((c.tc : Thread nD τ).loc main_v67) = Cert.ReferenceIdeal.Step.R_main_v52 (loop m c 20) (a9 m c) (a10 m c)
      ∧ r.2.mem ((c.tc : Thread nD τ).loc main_v66_1) = Cert.ReferenceIdeal.Step.R_main_v31 (loop m c 20) (a0 m c) (a1 m c)
      ∧ r.2.mem ((c.tc : Thread nD τ).loc main_v68) = Cert.ReferenceIdeal.Step.R_main_v41 (loop m c 20) (a0 m c) (a5 m c)) := by
  refine (θ_run defs _ _).mono (fun r h c => ?_) (run m ρ)
  obtain ⟨cid, kid, G⟩ := hG c
  refine ⟨?_, ?_, ?_⟩
  · exact ((h c).2 main_v67 (Pipeline.mem_restRefs_of main_v67 (by decide) (by decide))).trans (scores_eq m c cid kid G)
  · exact ((h c).1 9).trans (card_eq m c cid kid G)
  · exact ((h c).2 main_v68 (Pipeline.mem_restRefs_of main_v68 (by decide) (by decide))).trans (cat_eq m c cid kid G)

/-- What the precondition says of the arguments. -/
theorem good_served (h : Cert.Pre_KernelIdeal_served (hPre_served := Cert.Pre_served.Gen.facts) m) (c : Dev nD) : ∃ cid kid : ℕ → ℕ,
    Good (xs m c) (mat (a1 m c)) (mat (a5 m c)) (mat (a3 m c)) (mat (a7 m c)) (mat (a4 m c)) (mat (a8 m c)) cid kid :=
  Cert.Pre_served.Read.good_of (a0 m c) (a1 m c) (a2 m c) (a3 m c) (a4 m c) (a5 m c) (a6 m c) (a7 m c) (a8 m c) (a9 m c) (a10 m c)
    (h c).1 (h c).2.1 (h c).2.2.1 (h c).2.2.2.1 (h c).2.2.2.2.1 (h c).2.2.2.2.2.1 (h c).2.2.2.2.2.2.1 (h c).2.2.2.2.2.2.2

/-- The equation of the idealized kernel and the reference. -/
theorem algebraic : Cert.algebraic_KernelIdeal_ReferenceIdeal_pre_served (hKernelIdeal := Cert.KernelIdeal.Gen.facts)
    (hReferenceIdeal := Cert.ReferenceIdeal.Gen.facts) (hPre_served := Cert.Pre_served.Gen.facts) := by
  intro m g m' g' hpre hagree
  refine ⟨_, _, _, (θ_run defs _ _).mono (fun r h c => ⟨(h.1 c).1, (h.1 c).2.1, (h.1 c).2.2, h.2 c⟩)
    (θ_run_and (results m g (good_served m hpre)) (unchanged m g)), ?_⟩
  refine (θ_run Cert.ReferenceIdeal.defs _ _).mono (fun r h c => ?_)
    (Cert.ReferenceIdeal.StepRun.run_iter (F := Ideal) m' g' (fun c => loop m c) (fun c => ?_) (fun c n => rfl))
  · obtain ⟨h0, h1, h2, h3, h4, h5, h6, h7, h8, h9, h10⟩ := hagree c
    refine ⟨(h c).1.trans ?_, (h c).2.1.trans ?_, (h c).2.2.1.trans ?_, (h c).2.2.2⟩
    · rw [h9, h10]; rfl
    · rw [h0, h1]; rfl
    · rw [h0, h5]; rfl
  · obtain ⟨h0, h1, h2, h3, h4, h5, h6, h7, h8, h9, h10⟩ := hagree c
    unfold Cert.ReferenceIdeal.StepRun.initState
    rw [h0, h1, h2, h3, h4, h5, h6, h7, h8]
    rfl

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Gen.ReferenceIdeal.Run
public import proofs.«01_k».proof.Proof.Gen.Pre_served
public import proofs.«01_k».proof.Proof.KernelRun
public import proofs.«01_k».proof.Proof.Region
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference, from any memory, ends with its arguments unchanged and every semaphore counter at zero: it declares none. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_served.Gen.facts,
    fun m ρ _ => Cert.Kernel.Body.frame m ρ,
    fun m ρ _ => Cert.KernelIdeal.Body.frame m ρ,
    fun m ρ _ => Cert.KernelIdeal.Body.frame m ρ,
    frame_reference,
    fun m ρ _ => frame_reference m ρ trivial,
    IdealRules.named_const.statement Cert.KernelIdeal.κ "sat" .f32 0x41A00000#32 ⊤ rfl,
    Cert.KernelIdeal.Body.algebraic⟩

end Cert.Proof

end
